-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_sample [hPre_one_sample : Cert.Pre_one_sample.Facts] (m : (ℓ : Loc Cert.KernelIdeal.nD Cert.KernelIdeal.τ Cert.KernelIdeal.sig) → Buf (Elt Ideal) ℓ) : Prop :=
  ∀ c : Dev Cert.KernelIdeal.nD,
    (Cert.Pre_one_sample.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_sample [hPre_one_sample : Cert.Pre_one_sample.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_sample.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_one_sample [hKernelIdeal : Cert.KernelIdeal.Facts] [hPre_one_sample : Cert.Pre_one_sample.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_sample m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_one_sample [hReferenceIdeal : Cert.ReferenceIdeal.Facts] [hPre_one_sample : Cert.Pre_one_sample.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_sample m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_one_sample [hKernelIdeal : Cert.KernelIdeal.Facts] [hReferenceIdeal : Cert.ReferenceIdeal.Facts] [hPre_one_sample : Cert.Pre_one_sample.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_sample m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_one_sample : Cert.Pre_one_sample.Facts),
    quiescent_Kernel (hKernel := hKernel)
    ∧ quiescent_KernelIdeal (hKernelIdeal := hKernelIdeal)
    ∧ quiescent_KernelIdeal_pre_one_sample (hKernelIdeal := hKernelIdeal) (hPre_one_sample := hPre_one_sample)
    ∧ quiescent_ReferenceIdeal (hReferenceIdeal := hReferenceIdeal)
    ∧ quiescent_ReferenceIdeal_pre_one_sample (hReferenceIdeal := hReferenceIdeal) (hPre_one_sample := hPre_one_sample)
    ∧ preserves_Kernel_KernelIdeal
    ∧ algebraic_KernelIdeal_ReferenceIdeal_pre_one_sample (hKernelIdeal := hKernelIdeal) (hReferenceIdeal := hReferenceIdeal) (hPre_one_sample := hPre_one_sample)
-- ==== Pre_one_sample.lean ====
abbrev S16x2048 : Shape := ⟨2, ![16, 2048]⟩
abbrev S2 : Shape := ⟨1, ![2]⟩
abbrev S1024x64 : Shape := ⟨2, ![1024, 64]⟩
abbrev S64x1024 : Shape := ⟨2, ![64, 1024]⟩
abbrev S16x2048x1024 : Shape := ⟨3, ![16, 2048, 1024]⟩
abbrev S_ : Shape := ⟨0, ![]⟩
abbrev S16x2048x1 : Shape := ⟨3, ![16, 2048, 1]⟩
abbrev S1 : Shape := ⟨1, ![1]⟩
abbrev S1x1x1 : Shape := ⟨3, ![1, 1, 1]⟩
abbrev S16x2048x64 : Shape := ⟨3, ![16, 2048, 64]⟩

class Facts : Prop where
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S1_S1x1x1_2 : S1.BroadcastsInDim S1x1x1 (![2] : Fin 1 → Fin S1x1x1.rank)
  bcast_S1x1x1_S16x2048x1_0_1_2 : S1x1x1.BroadcastsInDim S16x2048x1 (![0, 1, 2] : Fin 3 → Fin S16x2048x1.rank)
  reducesTo_S16x2048x1_S16x2048_d2 : S16x2048x1.ReducesTo [2] S16x2048
  h_S_ : 0 < S_.numel
  bcast_S16x2048_S16x2048x64_0_1 : S16x2048.BroadcastsInDim S16x2048x64 (![0, 1] : Fin 2 → Fin S16x2048x64.rank)
  bcast_S_S16x2048x64 : S_.BroadcastsInDim S16x2048x64 (![] : Fin 0 → Fin S16x2048x64.rank)
  reducesTo_S16x2048x1024_S16x2048_d2 : S16x2048x1024.ReducesTo [2] S16x2048
  bcast_S16x2048x1_S16x2048x1024_0_1_2 : S16x2048x1.BroadcastsInDim S16x2048x1024 (![0, 1, 2] : Fin 3 → Fin S16x2048x1024.rank)
  natLt_1_32 : 1 < 32
  gather_S1024x64_S16x2048x1_S16x2048x64_2_0_n_n_0_2_164_wf : GatherDims.WF S1024x64 S16x2048x1 S16x2048x64 [2] [0] [] [0] [] 2 ![1, 64]
  dot_S16x2048x64_S64x1024_S16x2048x1024_2_0_01_1_n_n_wf : DotDims.WF S16x2048x64 S64x1024 S16x2048x1024 [2] [0] [0, 1] [1] [] []

variable [Facts]

def gather_S1024x64_S16x2048x1_S16x2048x64_2_0_n_n_0_2_164 : GatherDims S1024x64 S16x2048x1 S16x2048x64 where
  offsetDims := [2]
  collapsedSliceDims := [0]
  operandBatchingDims := []
  startIndicesBatchingDims := []
  startIndexMap := [0]
  indexVectorDim := 2
  sliceSizes := ![1, 64]
  wf := gather_S1024x64_S16x2048x1_S16x2048x64_2_0_n_n_0_2_164_wf
def dot_S16x2048x64_S64x1024_S16x2048x1024_2_0_01_1_n_n : DotDims S16x2048x64 S64x1024 S16x2048x1024 where
  lhsContracting := [2]
  rhsContracting := [0]
  lhsNonContracting := [0, 1]
  rhsNonContracting := [1]
  lhsBatch := []
  rhsBatch := []
  wf := dot_S16x2048x64_S64x1024_S16x2048x1024_2_0_01_1_n_n_wf
def fn_where {F : FTy → Type} [FloatOps F] (arg0 : IVec S16x2048 1) (arg1 : IVec S16x2048 32) (arg2 : IVec S16x2048 32) : IVec S16x2048 32 :=
  let v0 : IVec S16x2048 32 := select arg0 arg1 arg2
  v0

def fn_take {F : FTy → Type} [FloatOps F] (arg0 : FVec F S1024x64 .f32) (arg1 : IVec S16x2048 32) : FVec F S16x2048x64 .f32 :=
  let c : IVec S_ 32 := constantI S_ 32 0#32
  let v0 : IVec S16x2048 32 := broadcastInDim S16x2048 ![] bcast_S_S16x2048 c
  let v1 : IVec S16x2048 1 := cmpi .slt arg1 v0
  let c_0 : IVec S_ 32 := constantI S_ 32 1024#32
  let v2 : IVec S16x2048 32 := broadcastInDim S16x2048 ![] bcast_S_S16x2048 c_0
  let v3 : IVec S16x2048 32 := addi arg1 v2
  let v4 : IVec S16x2048 32 := fn_where (F := F) v1 v3 arg1
  let v5 : IVec S16x2048x1 32 := broadcastInDim S16x2048x1 ![0, 1] bcast_S16x2048_S16x2048x1_0_1 v4
  let c_1 : IVec S1 32 := constantI S1 32 1023#32
  let c_2 : IVec S_ 32 := constantI S_ 32 0#32
  let v6 : IVec S16x2048x1 32 := broadcastInDim S16x2048x1 ![] bcast_S_S16x2048x1 c_2
  let v7 : IVec S16x2048x1 1 := cmpi .sge v5 v6
  let v8 : IVec S1x1x1 32 := broadcastInDim S1x1x1 ![2] bcast_S1_S1x1x1_2 c_1
  let v9 : IVec S16x2048x1 32 := broadcastInDim S16x2048x1 ![0, 1, 2] bcast_S1x1x1_S16x2048x1_0_1_2 v8
  let v10 : IVec S16x2048x1 1 := cmpi .sle v5 v9
  let v11 : IVec S16x2048x1 1 := andi v7 v10
  let c_3 : IVec S_ 1 := constantI S_ 1 1#1
  let v12 : IVec S16x2048 1 := (fun x v => Host.reduce IntOp.andi x v reducesTo_S16x2048x1_S16x2048_d2 h_S_) v11 c_3
  let v13 : FVec F S16x2048x64 .f32 := (fun x i => Host.gather gather_S1024x64_S16x2048x1_S16x2048x64_2_0_n_n_0_2_164 x i) arg0 v5
  let v14 : IVec S16x2048x64 1 := broadcastInDim S16x2048x64 ![0, 1] bcast_S16x2048_S16x2048x64_0_1 v12
  let cst : FVec F S_ .f32 := constant S_ .f32 0x7FC00000#32
  let v15 : FVec F S16x2048x64 .f32 := broadcastInDim S16x2048x64 ![] bcast_S_S16x2048x64 cst
  let v16 : FVec F S16x2048x64 .f32 := select v14 v13 v15
  v16

def fn_part1 {F : FTy → Type} [FloatOps F] (main_arg0 : IVec S16x2048 32) (main_v18 : FVec F S16x2048x1024 .f32) (main_v19 : FVec F S16x2048 .f32) : IVec S16x2048 1 :=
  let main_v20 : FVec F S16x2048x1 .f32 := broadcastInDim S16x2048x1 ![0, 1] bcast_S16x2048_S16x2048x1_0_1 main_v19
  let main_v21 : FVec F S16x2048x1024 .f32 := broadcastInDim S16x2048x1024 ![0, 1, 2] bcast_S16x2048x1_S16x2048x1024_0_1_2 main_v20
  let main_v22 : IVec S16x2048x1024 1 := cmpf .oeq main_v18 main_v21
  let main_v23 : IVec S16x2048x1024 32 := (extui 32 · natLt_1_32) main_v22
  let main_c : IVec S_ 32 := constantI S_ 32 0#32
  let main_v24 : IVec S16x2048 32 := (fun x v => Host.reduce IntOp.addi x v reducesTo_S16x2048x1024_S16x2048_d2 h_S_) main_v23 main_c
  let main_c_3 : IVec S_ 32 := constantI S_ 32 0#32
  let main_v25 : IVec S16x2048 32 := broadcastInDim S16x2048 ![] bcast_S_S16x2048 main_c_3
  let main_v26 : IVec S16x2048 1 := cmpi .sge main_arg0 main_v25
  let main_c_4 : IVec S_ 32 := constantI S_ 32 1024#32
  let main_v27 : IVec S16x2048 32 := broadcastInDim S16x2048 ![] bcast_S_S16x2048 main_c_4
  let main_v28 : IVec S16x2048 1 := cmpi .slt main_arg0 main_v27
  let main_v29 : IVec S16x2048 1 := andi main_v26 main_v28
  let main_c_5 : IVec S_ 32 := constantI S_ 32 1#32
  let main_v30 : IVec S16x2048 32 := broadcastInDim S16x2048 ![] bcast_S_S16x2048 main_c_5
  let main_v31 : IVec S16x2048 1 := cmpi .eq main_v24 main_v30
  let main_v32 : IVec S16x2048 1 := andi main_v29 main_v31
  main_v32

def fn {F : FTy → Type} [FloatOps F] (main_arg0 : IVec S16x2048 32) (main_arg1 : FVec F S2 .f32) (main_arg2 : FVec F S1024x64 .f32) (main_arg3 : FVec F S64x1024 .f32) (main_arg4 : FVec F S16x2048x1024 .f32) (main_arg5 : FVec F S16x2048 .f32) : IVec S16x2048 1 :=
  let main_v0 : FVec F S16x2048x64 .f32 := fn_take (F := F) main_arg2 main_arg0
  let main_v1 : FVec F S16x2048x1024 .f32 := (fun l r => Host.dotGeneral dot_S16x2048x64_S64x1024_S16x2048x1024_2_0_01_1_n_n none l r) main_v0 main_arg3
  let main_cst : FVec F S_ .f32 := constant S_ .f32 0xFF800000#32
  let main_v2 : FVec F S16x2048 .f32 := (fun x v => Host.reduce FloatOps.maximumf x v reducesTo_S16x2048x1024_S16x2048_d2 h_S_) main_v1 main_cst
  let main_cst_0 : FVec F S_ .f32 := constant S_ .f32 0xFF800000#32
  let main_v3 : FVec F S16x2048 .f32 := broadcastInDim S16x2048 ![] bcast_S_S16x2048 main_cst_0
  let main_v4 : FVec F S16x2048 .f32 := maximumf main_v3 main_v2
  let main_v5 : FVec F S16x2048x1 .f32 := broadcastInDim S16x2048x1 ![0, 1] bcast_S16x2048_S16x2048x1_0_1 main_v4
  let main_v6 : FVec F S16x2048x1024 .f32 := broadcastInDim S16x2048x1024 ![0, 1, 2] bcast_S16x2048x1_S16x2048x1024_0_1_2 main_v5
  let main_v7 : FVec F S16x2048x1024 .f32 := subf main_v1 main_v6
  let main_v8 : FVec F S16x2048x1024 .f32 := Host.exp main_v7
  let main_cst_1 : FVec F S_ .f32 := constant S_ .f32 0x00000000#32
  let main_v9 : FVec F S16x2048 .f32 := (fun x v => Host.reduceAdd x v reducesTo_S16x2048x1024_S16x2048_d2 h_S_) main_v8 main_cst_1
  let main_v10 : FVec F S16x2048x1 .f32 := broadcastInDim S16x2048x1 ![0, 1] bcast_S16x2048_S16x2048x1_0_1 main_v9
  let main_v11 : FVec F S16x2048x1024 .f32 := broadcastInDim S16x2048x1024 ![0, 1, 2] bcast_S16x2048x1_S16x2048x1024_0_1_2 main_v10
  let main_v12 : FVec F S16x2048x1024 .f32 := Host.divf main_v8 main_v11
  let main_v13 : FVec F S16x2048x1024 .f32 := Host.log main_arg4
  let main_v14 : FVec F S16x2048x1024 .f32 := Host.negf main_v13
  let main_v15 : FVec F S16x2048x1024 .f32 := Host.log main_v14
  let main_v16 : FVec F S16x2048x1024 .f32 := Host.negf main_v15
  let main_v17 : FVec F S16x2048x1024 .f32 := Host.log main_v12
  let main_v18 : FVec F S16x2048x1024 .f32 := addf main_v17 main_v16
  let main_cst_2 : FVec F S_ .f32 := constant S_ .f32 0xFF800000#32
  let main_v19 : FVec F S16x2048 .f32 := (fun x v => Host.reduce FloatOps.maximumf x v reducesTo_S16x2048x1024_S16x2048_d2 h_S_) main_v18 main_cst_2
  fn_part1 (F := F) main_arg0 main_v18 main_v19
-- ==== Kernel.lean ====
abbrev S16x2048 : Shape := ⟨2, ![16, 2048]⟩
abbrev S2 : Shape := ⟨1, ![2]⟩
abbrev S1024x64 : Shape := ⟨2, ![1024, 64]⟩
abbrev S64x1024 : Shape := ⟨2, ![64, 1024]⟩
abbrev S16x2048x1024 : Shape := ⟨3, ![16, 2048, 1024]⟩
abbrev S1x2 : Shape := ⟨2, ![1, 2]⟩
abbrev S1x2048x1024 : Shape := ⟨3, ![1, 2048, 1024]⟩
abbrev S1x16 : Shape := ⟨2, ![1, 16]⟩
abbrev S1x2048 : Shape := ⟨2, ![1, 2048]⟩
abbrev S1024x2048 : Shape := ⟨2, ![1024, 2048]⟩
abbrev S64x2048 : Shape := ⟨2, ![64, 2048]⟩
abbrev S2048x1024 : Shape := ⟨2, ![2048, 1024]⟩
abbrev S2048 : Shape := ⟨1, ![2048]⟩
abbrev S2048x1 : Shape := ⟨2, ![2048, 1]⟩
abbrev S2x1024 : Shape := ⟨2, ![2, 1024]⟩
abbrev S2x2048 : Shape := ⟨2, ![2, 2048]⟩
abbrev S1x1 : Shape := ⟨2, ![1, 1]⟩

abbrev nBuf : Space → Nat
  | .hbm => 11
  | .vmem => 10
  | .smem => 0
  | _ => 0

abbrev bufTy : (tb : Table) → Fin (tcTables nBuf tb) → BufTy
  | .hbm, ⟨0, _⟩ => ⟨S16x2048, .i32⟩
  | .hbm, ⟨1, _⟩ => ⟨S2, .f32⟩
  | .hbm, ⟨2, _⟩ => ⟨S1024x64, .f32⟩
  | .hbm, ⟨3, _⟩ => ⟨S64x1024, .f32⟩
  | .hbm, ⟨4, _⟩ => ⟨S16x2048x1024, .f32⟩
  | .hbm, ⟨5, _⟩ => ⟨S16x2048, .f32⟩
  | .hbm, ⟨6, _⟩ => ⟨S1x2, .f32⟩
  | .hbm, ⟨7, _⟩ => ⟨S1024x64, .bf16⟩
  | .hbm, ⟨8, _⟩ => ⟨S16x2048, .f32⟩
  | .hbm, ⟨9, _⟩ => ⟨S16x2048, .i32⟩
  | .hbm, ⟨10, _⟩ => ⟨S16x2048, .f32⟩
  | .local _ .vmem, ⟨0, _⟩ => ⟨S1x2, .f32⟩
  | .local _ .vmem, ⟨1, _⟩ => ⟨S1024x64, .bf16⟩
  | .local _ .vmem, ⟨2, _⟩ => ⟨S64x1024, .f32⟩
  | .local _ .vmem, ⟨3, _⟩ => ⟨S16x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S16x2048, .f32⟩
  | .local _ .vmem, ⟨7, _⟩ => ⟨S16x2048, .i32⟩
  | .local _ .vmem, ⟨8, _⟩ => ⟨S16x2048, .f32⟩
  | .local _ .vmem, ⟨9, _⟩ => ⟨S16x2048, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c15_i32 : BitVec 32 := 15#32
  let v106 : BitVec 1 := Scalar.cmpi .eq arg0 c15_i32
  let v107 : BitVec 32 := Scalar.extui v106
  let c0_i32_33 : BitVec 32 := 0#32
  let v108 : BitVec 1 := Scalar.cmpi .ne v107 c0_i32_33
  v108

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S16x2048 : Shape := ⟨2, ![16, 2048]⟩
abbrev S2 : Shape := ⟨1, ![2]⟩
abbrev S1024x64 : Shape := ⟨2, ![1024, 64]⟩
abbrev S64x1024 : Shape := ⟨2, ![64, 1024]⟩
abbrev S16x2048x1024 : Shape := ⟨3, ![16, 2048, 1024]⟩
abbrev S1 : Shape := ⟨1, ![1]⟩
abbrev S_ : Shape := ⟨0, ![]⟩
abbrev S16x2048x1 : Shape := ⟨3, ![16, 2048, 1]⟩
abbrev S1x1x1 : Shape := ⟨3, ![1, 1, 1]⟩
abbrev S16x2048x64 : Shape := ⟨3, ![16, 2048, 64]⟩

abbrev nBuf : Space → Nat
  | .hbm => 79
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S2, .f32⟩
  | .hbm, ⟨2, _⟩ => ⟨S1024x64, .f32⟩
  | .hbm, ⟨3, _⟩ => ⟨S64x1024, .f32⟩
  | .hbm, ⟨4, _⟩ => ⟨S16x2048x1024, .f32⟩
  | .hbm, ⟨5, _⟩ => ⟨S16x2048, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S_, .i32⟩
  | .hbm, ⟨14, _⟩ => ⟨S16x2048, .i32⟩
  | .hbm, ⟨15, _⟩ => ⟨S16x2048, .i1⟩
  | .hbm, ⟨16, _⟩ => ⟨S_, .i32⟩
  | .hbm, ⟨17, _⟩ => ⟨S16x2048, .i32⟩
  | .hbm, ⟨18, _⟩ => ⟨S16x2048, .i32⟩
  | .hbm, ⟨19, _⟩ => ⟨S16x2048, .i32⟩
  | .hbm, ⟨20, _⟩ => ⟨S16x2048x1, .i32⟩
  | .hbm, ⟨21, _⟩ => ⟨S1, .i32⟩
  | .hbm, ⟨22, _⟩ => ⟨S_, .i32⟩
  | .hbm, ⟨23, _⟩ => ⟨S16x2048x1, .i32⟩
  | .hbm, ⟨24, _⟩ => ⟨S16x2048x1, .i1⟩
  | .hbm, ⟨25, _⟩ => ⟨S1x1x1, .i32⟩
  | .hbm, ⟨26, _⟩ => ⟨S16x2048x1, .i32⟩
  | .hbm, ⟨27, _⟩ => ⟨S16x2048x1, .i1⟩
  | .hbm, ⟨28, _⟩ => ⟨S16x2048x1, .i1⟩
  | .hbm, ⟨29, _⟩ => ⟨S_, .i1⟩
  | .hbm, ⟨30, _⟩ => ⟨S16x2048, .i1⟩
  | .hbm, ⟨31, _⟩ => ⟨S16x2048x64, .f32⟩
  | .hbm, ⟨32, _⟩ => ⟨S16x2048x64, .i1⟩
  | .hbm, ⟨33, _⟩ => ⟨S_, .f32⟩
  | .hbm, ⟨34, _⟩ => ⟨S16x2048x64, .f32⟩
  | .hbm, ⟨35, _⟩ => ⟨S16x2048x64, .f32⟩
  | .hbm, ⟨36, _⟩ => ⟨S16x2048x1024, .f32⟩
  | .hbm, ⟨37, _⟩ => ⟨S_, .f32⟩
  | .hbm, ⟨38, _⟩ => ⟨S16x2048, .f32⟩
  | .hbm, ⟨39, _⟩ => ⟨S_, .f32⟩
  | .hbm, ⟨40, _⟩ => ⟨S16x2048, .f32⟩
  | .hbm, ⟨41, _⟩ => ⟨S16x2048, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .i32⟩
  | .hbm, ⟨58, _⟩ => ⟨S_, .f32⟩
  | .hbm, ⟨59, _⟩ => ⟨S_, .i32⟩
  | .hbm, ⟨60, _⟩ => ⟨S16x2048, .f32⟩
  | .hbm, ⟨61, _⟩ => ⟨S16x2048, .i32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16x2048, .i1⟩
  | .hbm, ⟨67, _⟩ => ⟨S16x2048, .f32⟩
  | .hbm, ⟨68, _⟩ => ⟨S16x2048, .f32⟩
  | .hbm, ⟨69, _⟩ => ⟨S16x2048, .f32⟩
  | .hbm, ⟨70, _⟩ => ⟨S_, .f32⟩
  | .hbm, ⟨71, _⟩ => ⟨S16x2048, .f32⟩
  | .hbm, ⟨72, _⟩ => ⟨S16x2048, .f32⟩
  | .hbm, ⟨73, _⟩ => ⟨S16x2048, .f32⟩
  | .hbm, ⟨74, _⟩ => ⟨S_, .f32⟩
  | .hbm, ⟨75, _⟩ => ⟨S16x2048, .f32⟩
  | .hbm, ⟨76, _⟩ => ⟨S16x2048, .f32⟩
  | .hbm, ⟨77, _⟩ => ⟨S16x2048, .i1⟩
  | .hbm, ⟨78, _⟩ => ⟨S16x2048, .i32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_call1_v0 : Ref sig .tc := ⟨.hbm, 57, rfl⟩
abbrev main_call1_cst : Ref sig .tc := ⟨.hbm, 58, rfl⟩
abbrev main_call1_c : Ref sig .tc := ⟨.hbm, 59, rfl⟩
abbrev main_call1_v1_0 : Ref sig .tc := ⟨.hbm, 60, rfl⟩
abbrev main_v26 : Ref sig .tc := ⟨.hbm, 61, rfl⟩
abbrev main_cst_2 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩

abbrev nD : Nat := 1
abbrev τ : Topo := Topo.v7x

variable {F : FTy → Type} [FloatOps F]
-- ==== Proof.KernelIdeal.Body.lean ====
/-
  One grid point of the sampler: what the kernel body, run on whole staging buffers, leaves in them.

  At every point the body rewrites the scratch (`stepped`: the row of the point becomes the words sampled there, the
  other rows stay).  At the last point it then computes the two results from the scratch (`chosen`, `change`).
-/
module

public import proofs.«01_k».proof.Proof.Gen.KernelIdeal.Skeleton
public import proofs.«01_k».proof.Proof.Gen.KernelIdeal.Frame
public import Idealize.ShloMosaic.Lib.Pipeline.Value

@[expose] public section

set_option maxRecDepth 16384

noncomputable section

namespace Cert.KernelIdeal.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- The scratch after the point `i`, from the tables, the tokens, the noise block and the scratch before it. -/
def stepped (i : grid0.Coords) (emb : Vec F S1024x64 .bf16) (w : Vec F S64x1024 .f32) (xf : Vec F S16x2048 .f32)
    (u : Vec F S1x2048x1024 .f32) (old : Vec F S16x2048 .f32) : Vec F S16x2048 .f32 :=
  k0_pay1 (BitVec.ofNat 32 (i 0).val) (k0_pay5 i xf emb w u) k0_pay6 old

/-- The two times, read off the time buffer. -/
def time0 (tg : Vec F S1x2 .f32) : Vec F S1x1 .f32 := View.ld tg (Rect.unit (s := S1x2) ![0, 0] S1x1.size inb_S1x2_S1x1_0_0)
def time1 (tg : Vec F S1x2 .f32) : Vec F S1x1 .f32 := View.ld tg (Rect.unit (s := S1x2) ![0, 1] S1x1.size inb_S1x2_S1x1_0_1)

/-- The probability of a change, from the times, the sampled words and the tokens. -/
def change (tg : Vec F S1x2 .f32) (x1 xf : Vec F S16x2048 .f32) : Vec F S16x2048 .f32 :=
  k0_pay3 (time0 tg) (time1 tg) (time0 tg) x1 xf

/-- The next tokens, from the times, the sampled words, the tokens and the uniform draws. -/
def chosen (tg : Vec F S1x2 .f32) (x1 xf z : Vec F S16x2048 .f32) : Vec F S16x2048 .i32 :=
  k0_pay4 (time0 tg) (time1 tg) (time0 tg) x1 xf z

/-- The body at a point that is not the last: the scratch is rewritten, every window is as it was. -/
theorem body_early (c : Dev nD) (i : grid0.Coords)
    (a1 : Memref sig .tc .vmem S1x2 .f32) (h1 : a1.IsWhole) (a2 : Memref sig .tc .vmem S1024x64 .bf16) (h2 : a2.IsWhole)
    (a3 : Memref sig .tc .vmem S64x1024 .f32) (h3 : a3.IsWhole) (a4 : Memref sig .tc .vmem S16x2048 .f32) (h4 : a4.IsWhole)
    (a5 : Memref sig .tc .vmem S1x2048x1024 .f32) (h5 : a5.IsWhole) (a6 : Memref sig .tc .vmem S16x2048 .f32) (h6 : a6.IsWhole)
    (a7 : Memref sig .tc .vmem S16x2048 .i32) (h7 : a7.IsWhole) (a8 : Memref sig .tc .vmem S16x2048 .f32) (h8 : a8.IsWhole)
    (a9 : Memref sig .tc .vmem S16x2048 .f32) (h9 : a9.IsWhole) (hc : ¬k0_cond1 i = 1#1)
    (tg : Vec F S1x2 .f32) (emb : Vec F S1024x64 .bf16) (w : Vec F S64x1024 .f32) (xf : Vec F S16x2048 .f32)
    (u : Vec F S1x2048x1024 .f32) (z : Vec F S16x2048 .f32) (xn : Vec F S16x2048 .i32) (pc old : Vec F S16x2048 .f32)
    (E : Set ℕ) (K : PUnit → sProp 𝕄) :
    iprop(owns (c : Thread nD τ) a1 fullShare tg ∗ owns (c : Thread nD τ) a2 fullShare emb ∗ owns (c : Thread nD τ) a3 fullShare w
        ∗ owns (c : Thread nD τ) a4 fullShare xf ∗ owns (c : Thread nD τ) a5 fullShare u ∗ owns (c : Thread nD τ) a6 fullShare z
        ∗ owns (c : Thread nD τ) a7 fullShare xn ∗ owns (c : Thread nD τ) a8 fullShare pc ∗ owns (c : Thread nD τ) a9 fullShare old
        ∗ (iprop(owns (c : Thread nD τ) a1 fullShare tg ∗ owns (c : Thread nD τ) a2 fullShare emb ∗ owns (c : Thread nD τ) a3 fullShare w
            ∗ owns (c : Thread nD τ) a4 fullShare xf ∗ owns (c : Thread nD τ) a5 fullShare u ∗ owns (c : Thread nD τ) a6 fullShare z
            ∗ owns (c : Thread nD τ) a7 fullShare xn ∗ owns (c : Thread nD τ) a8 fullShare pc
            ∗ owns (c : Thread nD τ) a9 fullShare (stepped i emb w xf u old)) -∗ K ⟨⟩))
      ⊢ wp frame (wpE (defs₀ (F := F)) Variants.none c none) E
          (cc0__body i a1 h1 a2 h2 a3 h3 a4 h4 a5 h5 a6 h6 a7 h7 a8 h8 a9 h9) K := by
  simp only [cc0__body_eq_skeleton]; unfold cc0__body_skel
  simp only [k0_part1_eq_skeleton, k0_part2_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  obtain rfl := h1.eq_unread e1; obtain rfl := h2.eq_unread e2; obtain rfl := h3.eq_unread e3
  obtain rfl := h4.eq_unread e4; obtain rfl := h5.eq_unread e5; obtain rfl := h6.eq_unread e6
  obtain rfl := h7.eq_unread e7; obtain rfl := h8.eq_unread e8; obtain rfl := h9.eq_unread e9
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  iexists _; isplitr; swap; · iexact H9
  ipureintro
  rw [View.read_writes_eq_canon _ _ _ (fun y => View.cover_of_tiledL _ S16x2048.size (by sl_kernel_rfl) y)]
  sl_unfold_words
  rw [View.canon_unit_zero zeros2]
  simp only [View.readAt_eq_ld, h2.read_unread, h3.read_unread, h4.read_unread, h5.read_unread, h9.read_unread,
    View.ld_unit_zero (S := S16x2048) zeros2, View.ld_unit_zero (S := S1024x64) zeros2,
    View.ld_unit_zero (S := S64x1024) zeros2, View.ld_unit_zero (S := S1x2048x1024) zeros3]
  rfl

/-- The body at the last point: the scratch is rewritten, and the two outputs hold the results computed from it. -/
theorem body_last (c : Dev nD) (i : grid0.Coords)
    (a1 : Memref sig .tc .vmem S1x2 .f32) (h1 : a1.IsWhole) (a2 : Memref sig .tc .vmem S1024x64 .bf16) (h2 : a2.IsWhole)
    (a3 : Memref sig .tc .vmem S64x1024 .f32) (h3 : a3.IsWhole) (a4 : Memref sig .tc .vmem S16x2048 .f32) (h4 : a4.IsWhole)
    (a5 : Memref sig .tc .vmem S1x2048x1024 .f32) (h5 : a5.IsWhole) (a6 : Memref sig .tc .vmem S16x2048 .f32) (h6 : a6.IsWhole)
    (a7 : Memref sig .tc .vmem S16x2048 .i32) (h7 : a7.IsWhole) (a8 : Memref sig .tc .vmem S16x2048 .f32) (h8 : a8.IsWhole)
    (a9 : Memref sig .tc .vmem S16x2048 .f32) (h9 : a9.IsWhole) (hc : k0_cond1 i = 1#1)
    (tg : Vec F S1x2 .f32) (emb : Vec F S1024x64 .bf16) (w : Vec F S64x1024 .f32) (xf : Vec F S16x2048 .f32)
    (u : Vec F S1x2048x1024 .f32) (z : Vec F S16x2048 .f32) (xn : Vec F S16x2048 .i32) (pc old : Vec F S16x2048 .f32)
    (E : Set ℕ) (K : PUnit → sProp 𝕄) :
    iprop(owns (c : Thread nD τ) a1 fullShare tg ∗ owns (c : Thread nD τ) a2 fullShare emb ∗ owns (c : Thread nD τ) a3 fullShare w
        ∗ owns (c : Thread nD τ) a4 fullShare xf ∗ owns (c : Thread nD τ) a5 fullShare u ∗ owns (c : Thread nD τ) a6 fullShare z
        ∗ owns (c : Thread nD τ) a7 fullShare xn ∗ owns (c : Thread nD τ) a8 fullShare pc ∗ owns (c : Thread nD τ) a9 fullShare old
        ∗ (iprop(owns (c : Thread nD τ) a1 fullShare tg ∗ owns (c : Thread nD τ) a2 fullShare emb ∗ owns (c : Thread nD τ) a3 fullShare w
            ∗ owns (c : Thread nD τ) a4 fullShare xf ∗ owns (c : Thread nD τ) a5 fullShare u ∗ owns (c : Thread nD τ) a6 fullShare z
            ∗ owns (c : Thread nD τ) a7 fullShare (chosen tg (stepped i emb w xf u old) xf z)
            ∗ owns (c : Thread nD τ) a8 fullShare (change tg (stepped i emb w xf u old) xf)
            ∗ owns (c : Thread nD τ) a9 fullShare (stepped i emb w xf u old)) -∗ K ⟨⟩))
      ⊢ wp frame (wpE (defs₀ (F := F)) Variants.none c none) E
          (cc0__body i a1 h1 a2 h2 a3 h3 a4 h4 a5 h5 a6 h6 a7 h7 a8 h8 a9 h9) K := by
  simp only [cc0__body_eq_skeleton]; unfold cc0__body_skel
  simp only [k0_part1_eq_skeleton, k0_part2_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  obtain rfl := h1.eq_unread e1; obtain rfl := h2.eq_unread e2; obtain rfl := h3.eq_unread e3
  obtain rfl := h4.eq_unread e4; obtain rfl := h5.eq_unread e5; obtain rfl := h6.eq_unread e6
  obtain rfl := h7.eq_unread e7; obtain rfl := h8.eq_unread e8; obtain rfl := h9.eq_unread e9
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [View.read_writes_eq_canon _ _ _ (fun y => View.cover_of_tiledL _ S16x2048.size (by sl_kernel_rfl) y)]
    sl_unfold_words
    rw [View.canon_unit_zero zeros2]
    simp only [View.readAt_eq_ld, View.readCov_unit_zero (S := S16x2048) _ zeros2, h1.read_unread, h2.read_unread, h3.read_unread, h4.read_unread, h5.read_unread,
      h6.read_unread, h9.read_unread, View.ld_unit_zero (S := S16x2048) zeros2, View.ld_unit_zero (S := S1024x64) zeros2,
      View.ld_unit_zero (S := S64x1024) zeros2, View.ld_unit_zero (S := S1x2048x1024) zeros3]
    rfl
  isplitl [H8]
  · iexists _; isplitr; swap; · iexact H8
    ipureintro
    rw [View.read_writes_eq_canon _ _ _ (fun y => View.cover_of_tiledL _ S16x2048.size (by sl_kernel_rfl) y)]
    sl_unfold_words
    rw [View.canon_unit_zero zeros2]
    simp only [View.readAt_eq_ld, View.readCov_unit_zero (S := S16x2048) _ zeros2, h1.read_unread, h2.read_unread, h3.read_unread, h4.read_unread, h5.read_unread,
      h6.read_unread, h9.read_unread, View.ld_unit_zero (S := S16x2048) zeros2, View.ld_unit_zero (S := S1024x64) zeros2,
      View.ld_unit_zero (S := S64x1024) zeros2, View.ld_unit_zero (S := S1x2048x1024) zeros3]
    rfl
  iexists _; isplitr; swap; · iexact H9
  ipureintro
  rw [View.read_writes_eq_canon _ _ _ (fun y => View.cover_of_tiledL _ S16x2048.size (by sl_kernel_rfl) y)]
  sl_unfold_words
  rw [View.canon_unit_zero zeros2]
  simp only [View.readAt_eq_ld, h2.read_unread, h3.read_unread, h4.read_unread, h5.read_unread, h9.read_unread,
    View.ld_unit_zero (S := S16x2048) zeros2, View.ld_unit_zero (S := S1024x64) zeros2,
    View.ld_unit_zero (S := S64x1024) zeros2, View.ld_unit_zero (S := S1x2048x1024) zeros3]
  rfl

end Cert.KernelIdeal.Sampler

end
-- ==== Proof.KernelIdeal.Rows.lean ====
/-
  The scratch of the sampler, row by row.

  The point of row `t` replaces row `t` of the scratch and keeps the others, and what it puts there does not depend on
  what the scratch held.  So after sixteen points the scratch is one array (`words`), whatever it held at the start.
-/
module

public import proofs.«01_k».proof.Proof.KernelIdeal.Body
public import Idealize.ShloMosaic.Lib.Pointwise

@[expose] public section

noncomputable section

namespace Cert.KernelIdeal.Sampler

open Cert.KernelIdeal Cert.KernelIdeal.Gen
open Idealize.ShloMosaic Idealize.ShloMosaic.TcCoe

variable {F : FTy → Type} [FloatOps F] [Named F]

/-- The row of sampled words that a mask of the greatest keys gives. -/
def rowOf (mask : FVec F S2048x1024 .bf16) : FVec F S1x2048 .f32 :=
  have pair : FVec F S2x2048 .f32 := matmul dot_S2x1024_S2048x1024_S2x2048_1_1_0_0_n_n none k0_pay6 mask (constant S2x2048 .f32 0x00000000#32)
  minimumf
    (addf (mulf (broadcast S1x2048 (Scalar.ofBits .f32 0x40800000#32)) (extractStridedSlice S1x2048 ![0, 0] pair slices_S2x2048_o0_0_S1x2048))
      (extractStridedSlice S1x2048 ![1, 0] pair slices_S2x2048_o1_0_S1x2048))
    (broadcast S1x2048 (Scalar.ofBits .f32 0x447FC000#32))

/-- The scratch after a point: in the point's row the new words, elsewhere what it held. -/
theorem stepped_eq (i : grid0.Coords) (emb : Vec F S1024x64 .bf16) (w : Vec F S64x1024 .f32) (xf : Vec F S16x2048 .f32)
    (u : Vec F S1x2048x1024 .f32) (old : Vec F S16x2048 .f32) :
    stepped i emb w xf u old
      = select (cmpi .eq (iota .tc S16x2048 32 [0] iota_S16x2048_d0_w32) (broadcast S16x2048 (BitVec.ofNat 32 (i 0).val)))
          (broadcastTo S16x2048 (rowOf (k0_pay5 i xf emb w u)) broadcasts_S1x2048_S16x2048) old := by
  unfold stepped k0_pay1 rowOf
  simp only [shapeCast_self]

/-- The comparison the kernel selects rows by. -/
theorem row_bit (y : S16x2048.Idx) (t : ℕ) :
    cmpi .eq (iota .tc S16x2048 32 [0] iota_S16x2048_d0_w32) (broadcast S16x2048 (BitVec.ofNat 32 t)) y
      = IntOp.cmpi .eq (BitVec.ofNat 32 (y 0).val) (BitVec.ofNat 32 t) := by
  simp only [cmpi_apply, iota_apply, List.foldl_cons, List.foldl_nil, Nat.zero_mul, Nat.zero_add]
  rfl

/-- Outside the point's row the scratch stays. -/
theorem stepped_other (i : grid0.Coords) (emb : Vec F S1024x64 .bf16) (w : Vec F S64x1024 .f32) (xf : Vec F S16x2048 .f32)
    (u : Vec F S1x2048x1024 .f32) (old : Vec F S16x2048 .f32) (y : S16x2048.Idx) (h : (y 0).val ≠ (i 0).val) :
    stepped i emb w xf u old y = old y := by
  have hy : (y 0).val < 16 := (y 0).isLt
  have hi : (i 0).val < 16 := (i 0).isLt
  rw [stepped_eq, ValueIdx.select_apply, row_bit, WordCmp.select_of_eq_zero]
  exact (WordCmp.cmpi_eq_ofNat_eq_zero_iff (by omega) (by omega)).mpr h

/-- In the point's row it holds the point's words. -/
theorem stepped_row (i : grid0.Coords) (emb : Vec F S1024x64 .bf16) (w : Vec F S64x1024 .f32) (xf : Vec F S16x2048 .f32)
    (u : Vec F S1x2048x1024 .f32) (old : Vec F S16x2048 .f32) (y : S16x2048.Idx) (h : (y 0).val = (i 0).val) :
    stepped i emb w xf u old y = broadcastTo S16x2048 (rowOf (k0_pay5 i xf emb w u)) broadcasts_S1x2048_S16x2048 y := by
  have hy : (y 0).val < 16 := (y 0).isLt
  have hi : (i 0).val < 16 := (i 0).isLt
  rw [stepped_eq, ValueIdx.select_apply, row_bit, WordCmp.select_of_eq_one]
  exact (WordCmp.cmpi_eq_ofNat_eq_one_iff (by omega) (by omega)).mpr h

end Cert.KernelIdeal.Sampler

end
-- ==== Proof.KernelIdeal.Run.lean ====
/-
  The whole run of the sampler: what the two result arrays end with.

  Between points the scratch is carried with its first rows known (`Held`): after the point of row `t` the rows up to `t`
  are those of `words`.  The outputs are stored at the last point only, from a scratch that is then `words`.
-/
module

public import proofs.«01_k».proof.Proof.KernelIdeal.Rows
public import Idealize.ShloMosaic.Lib.Claim

@[expose] public section

set_option maxRecDepth 16384

noncomputable section

namespace Cert.KernelIdeal.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which point is which -/

theorem coord_row (t : Fin cfg0.N) : (grid0.coords t 0).val = t.val :=
  (fun t => by
    have ht : t.val < 16 := Nat.lt_of_lt_of_eq t.isLt N_0
    have e0 : (grid0.coords t 0).val = t.val / 1 % 16 := Pipeline.Grid.coords_val t 0 (by decide) rfl
    omega : ∀ t : Fin grid0.N, (grid0.coords t 0).val = t.val) t

/-- The results are computed at the last point. -/
theorem last_iff (t : Fin cfg0.N) : k0_cond1 (grid0.coords t) = 1#1 ↔ t.val = 15 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val = 15) t

theorem idle6 : ∀ t : Fin cfg0.N, ¬k0_cond1 (grid0.coords t) = 1#1 → cfg0.idle 6 (grid0.coords t) = true := by decide +kernel
theorem idle7 : ∀ t : Fin cfg0.N, ¬k0_cond1 (grid0.coords t) = 1#1 → cfg0.idle 7 (grid0.coords t) = true := by decide +kernel
theorem keep6 : ∀ t : Fin cfg0.N, ¬k0_cond1 (grid0.coords t) = 1#1 → (cfg0.win 6).flush t = false := by decide +kernel
theorem keep7 : ∀ t : Fin cfg0.N, ¬k0_cond1 (grid0.coords t) = 1#1 → (cfg0.win 7).flush t = false := by decide +kernel
theorem live6 : ∀ t : Fin cfg0.N, k0_cond1 (grid0.coords t) = 1#1 → cfg0.idle 6 (grid0.coords t) = false := by decide +kernel
theorem live7 : ∀ t : Fin cfg0.N, k0_cond1 (grid0.coords t) = 1#1 → cfg0.idle 7 (grid0.coords t) = false := by decide +kernel

/-! ## The scratch between points -/

/-- The point of a row. -/
def pointOf (y : S16x2048.Idx) : Fin cfg0.N := ⟨(y 0).val, lt_of_lt_of_eq (y 0).isLt (show 16 = cfg0.N from N_0.symm)⟩

/-- The words sampled at a point, along the row. -/
def rowAt (c : Dev nD) (t : Fin cfg0.N) : FVec F S1x2048 .f32 :=
  rowOf (k0_pay5 (grid0.coords t) (iblk m c 3 t) (iblk m c 1 t) (iblk m c 2 t) (iblk m c 4 t))

/-- Every sampled word: row `t` is what the point of row `t` samples. -/
def words (c : Dev nD) : Vec F S16x2048 .f32 :=
  fun y => broadcastTo S16x2048 (rowAt m c (pointOf y)) broadcasts_S1x2048_S16x2048 y

/-- The scratch's first `n` rows are done. -/
def Held (c : Dev nD) (n : ℕ) (d : Vec F S16x2048 .f32) : Prop := ∀ y : S16x2048.Idx, (y 0).val < n → d y = words m c y

/-- One point does one more row. -/
theorem held_succ (c : Dev nD) (t : Fin cfg0.N) (d : Vec F S16x2048 .f32) (h : Held m c t.val d) :
    Held m c (t.val + 1) (stepped (grid0.coords t) (iblk m c 1 t) (iblk m c 2 t) (iblk m c 3 t) (iblk m c 4 t) d) := by
  intro y hy
  by_cases e : (y 0).val = t.val
  · rw [stepped_row _ _ _ _ _ _ _ (e.trans (coord_row t).symm)]
    have ep : pointOf y = t := Fin.ext e
    unfold words rowAt
    rw [ep]
  · rw [stepped_other _ _ _ _ _ _ _ (fun h' => e (h'.trans (coord_row t)))]
    exact h y (by omega)

/-- Sixteen rows are all of them. -/
theorem held_all (c : Dev nD) (d : Vec F S16x2048 .f32) (h : Held m c 16 d) : d = words m c :=
  funext fun y => h y (y 0).isLt

/-! ## The pipeline's data -/

abbrev scr : Memref sig .tc .vmem S16x2048 .f32 := Memref.whole cc0_scratch0

/-- Before position `n`: the scratch with its first `n` rows done, and the generator register at some state. -/
def Carried (c : Dev nD) (n : ℕ) : sProp 𝕄 :=
  iprop((∃ d, owns (c : Thread nD τ) scr fullShare d ∗ ⌜Held m c n d⌝) ∗ (∃ r, prngReg c r))

theorem rest_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => chosen (iblk m c 0 t) (words m c) (iblk m c 3 t) (iblk m c 5 t)
    | ⟨7, _⟩ => change (iblk m c 0 t) (words m c) (iblk m c 3 t)
  Φ t := Carried m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = chosen (iblk m c 0 t) (words m c) (iblk m c 3 t) (iblk m c 5 t) := by dsimp only [dats]
theorem after7 (c : Dev nD) (t : Fin cfg0.N) :
    (dats m 0 c).after 7 t = change (iblk m c 0 t) (words m c) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body's obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t
    ∗ (dats m 0 c).leavesExact 4 t ∗ (dats m 0 c).leavesExact 5 t
    ∗ (dats m 0 c).leavesExact 6 t ∗ (dats m 0 c).leavesExact 7 t)

/-- A live window is left at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 3200000 in
/-- The body at any point: one more row of the scratch, and at the last point the two results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Carried m c (t.val + 1) from rfl,
    show (dats m 0 c).Φ t.castSucc = Carried m c t.val from rfl]
  rw [leaves_live m c 0 t rfl, leaves_live m c 1 t rfl, leaves_live m c 2 t rfl, leaves_live m c 3 t rfl,
    leaves_live m c 4 t rfl, leaves_live m c 5 t rfl, after0, after1, after2, after3, after4, after5]
  unfold Carried
  by_cases hc : k0_cond1 (grid0.coords t) = 1#1
  · rw [leaves_live m c 6 t (live6 t hc), leaves_live m c 7 t (live7 t hc), after6, after7]
    iintro ⟨⟨⟨%d, HS, %hd⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hh := held_succ m c t d hd
    have hw := held_all m c _ (by rw [(last_iff t).mp hc] at hh; exact hh)
    iapply (body_last c (grid0.coords t) _ _ _ _ _ _ _ _ _ _ _ _ _ _ _ _ _ _ hc (iblk m c 0 t) (iblk m c 1 t) (iblk m c 2 t)
      (iblk m c 3 t) (iblk m c 4 t) (iblk m c 5 t) _ _ d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    rw [hw]
    iintro ⟨H0, H1, H2, H3, H4, H5, H6, H7, HS⟩
    isplitl [HS Hg]
    · isplitl [HS]
      · iexists _; isplitl [HS]; · iexact HS
        ipureintro; intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dats m 0 c) 6 t (idle6 t hc) (keep6 t hc), Dat.leavesExact_idle (dats m 0 c) 7 t (idle7 t hc) (keep7 t hc)]
    iintro ⟨⟨⟨%d, HS, %hd⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hh := held_succ m c t d hd
    iapply (body_early c (grid0.coords t) _ _ _ _ _ _ _ _ _ _ _ _ _ _ _ _ _ _ hc (iblk m c 0 t) (iblk m c 1 t) (iblk m c 2 t)
      (iblk m c 3 t) (iblk m c 4 t) (iblk m c 5 t) _ _ d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexists _; isplitl [HS]; · iexact HS
        ipureintro; exact hh
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start nothing is known of the scratch, and nothing needs to be. -/
theorem carried_in (c : Dev nD) : Pipeline.ΦA spec0 c ⊢ (dats m 0 c).Φ 0 := by
  rw [show (dats m 0 c).Φ 0 = Carried m c 0 from rfl, rest_eq]
  unfold Carried
  iintro ⟨⟨%d, HS⟩, Hg⟩
  isplitl [HS]
  · iexists d; isplitl [HS]; · iexact HS
    ipureintro; intro y hy; exact absurd hy (Nat.not_lt_zero _)
  iexact Hg

theorem carried_out (c : Dev nD) : (dats m 0 c).Φ (Fin.last cfg0.N) ⊢ Pipeline.ΦA spec0 c := by
  rw [show (dats m 0 c).Φ (Fin.last cfg0.N) = Carried m c (Fin.last cfg0.N).val from rfl, rest_eq]
  unfold Carried
  iintro ⟨⟨%d, HS, %hd⟩, Hg⟩
  isplitl [HS]
  · iexists d; iexact HS
  iexact Hg

/-! ## The run -/

set_option backward.isDefEq.respectTransparency.types false in
/-- Every execution ends with the arrays the pipeline leaves, and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

theorem run_arrays : θ_run defs (onTc (τ := τ) (main (F := F))) (s₀ m ρ) (Pipeline.FramePost cfgs (dats m) 0 (V m)) :=
  (θ_run defs _ _).mono (fun _ h => h.1) (run_all m ρ)

/-- The arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_arrays m ρ)) ((θ_run defs _ _).mono (fun _ h => h.2) (run_all m ρ))

end Cert.KernelIdeal.Sampler

end
-- ==== Proof.Reference.Text.lean ====
/-
  What the reference computes, as functions of its arguments: the rows of `emb` the tokens name, the logits, the scores
  (logarithm of the softmax plus the Gumbel noise), the word of the greatest score, and the jump.
-/
module

public import proofs.«01_k».proof.Proof.Gen.ReferenceIdeal

@[expose] public section

noncomputable section

namespace Cert.ReferenceIdeal.Plain

open Cert.ReferenceIdeal Cert.ReferenceIdeal.Gen Idealize.ShloMosaic

variable {F : FTy → Type} [FloatOps F]

/-- The row of `emb` each token names, a negative one counted from the end. -/
def place (x : IVec S16x2048 32) : IVec S16x2048x1 32 :=
  broadcastInDim S16x2048x1 ![0, 1] bcast_S16x2048_S16x2048x1_0_1
    (select (cmpi .slt x (broadcastInDim S16x2048 ![] bcast_S_S16x2048 (constantI S_ 32 0#32)))
      (addi x (broadcastInDim S16x2048 ![] bcast_S_S16x2048 (constantI S_ 32 1024#32))) x)

/-- Whether that row exists. -/
def inside (x : IVec S16x2048 32) : IVec S16x2048 1 :=
  Host.reduce IntOp.andi
    (andi (cmpi .sge (place x) (broadcastInDim S16x2048x1 ![] bcast_S_S16x2048x1 (constantI S_ 32 0#32)))
      (cmpi .sle (place x) (broadcastInDim S16x2048x1 ![0, 1, 2] bcast_S1x1x1_S16x2048x1_0_1_2
        (broadcastInDim S1x1x1 ![2] bcast_S1_S1x1x1_2 (constantI S1 32 1023#32)))))
    (constantI S_ 1 1#1) reducesTo_S16x2048x1_S16x2048_d2 h_S_

/-- The tokens' rows of `emb`. -/
def picked (emb : FVec F S1024x64 .f32) (x : IVec S16x2048 32) : FVec F S16x2048x64 .f32 :=
  select (broadcastInDim S16x2048x64 ![0, 1] bcast_S16x2048_S16x2048x64_0_1 (inside x))
    (Host.gather gather_S1024x64_S16x2048x1_S16x2048x64_2_0_n_n_0_2_164 emb (place x))
    (broadcastInDim S16x2048x64 ![] bcast_S_S16x2048x64 (constant S_ .f32 0x7FC00000#32))

/-- The logits of every word at every position. -/
def logits (x : IVec S16x2048 32) (emb : FVec F S1024x64 .f32) (W : FVec F S64x1024 .f32) : FVec F S16x2048x1024 .f32 :=
  Host.dotGeneral dot_S16x2048x64_S64x1024_S16x2048x1024_2_0_01_1_n_n none (picked emb x) W

/-- A value per position, repeated along the vocabulary. -/
def along (a : FVec F S16x2048 .f32) : FVec F S16x2048x1024 .f32 :=
  broadcastInDim S16x2048x1024 ![0, 1, 2] bcast_S16x2048x1_S16x2048x1024_0_1_2
    (broadcastInDim S16x2048x1 ![0, 1] bcast_S16x2048_S16x2048x1_0_1 a)

/-- The greatest logit of a position. -/
def top (L : FVec F S16x2048x1024 .f32) : FVec F S16x2048 .f32 :=
  maximumf (broadcastInDim S16x2048 ![] bcast_S_S16x2048 (constant S_ .f32 0xFF800000#32))
    (Host.reduce FloatOps.maximumf L (constant S_ .f32 0xFF800000#32) reducesTo_S16x2048x1024_S16x2048_d2 h_S_)

/-- The exponentials of the logits, each less its position's greatest. -/
def expo (L : FVec F S16x2048x1024 .f32) : FVec F S16x2048x1024 .f32 := Host.exp (subf L (along (top L)))

/-- Their softmax. -/
def prob (L : FVec F S16x2048x1024 .f32) : FVec F S16x2048x1024 .f32 :=
  Host.divf (expo L)
    (along (Host.reduceAdd (expo L) (constant S_ .f32 0x00000000#32) reducesTo_S16x2048x1024_S16x2048_d2 h_S_))

/-- The scores: the logarithm of the softmax plus the Gumbel noise drawn from `u`. -/
def scores (L u : FVec F S16x2048x1024 .f32) : FVec F S16x2048x1024 .f32 :=
  addf (Host.log (prob L)) (Host.negf (Host.log (Host.negf (Host.log u))))

/-- The word of the greatest score. -/
def word (s : FVec F S16x2048x1024 .f32) : IVec S16x2048 32 := fun j =>
  (Host.argReduce reducer_argmax_f32_i32 s (iotaInDim S16x2048x1024 32 2) (constant S_ .f32 0xFF800000#32)
    (constantI S_ 32 0#32) reducesTo_S16x2048x1024_S16x2048_d2 h_S_ j).2

/-- The first time of the grid, and the second. -/
def time0 (tg : FVec F S2 .f32) : FVec F S_ .f32 := shapeCast S_ (extractStridedSlice S1 ![0] tg slices_S2_S1_0) shapeCasts_S1_S_
def time1 (tg : FVec F S2 .f32) : FVec F S_ .f32 := shapeCast S_ (extractStridedSlice S1 ![1] tg slices_S2_S1_1) shapeCasts_S1_S_

/-- The probability of a change, from the word sampled. -/
def change (tg : FVec F S2 .f32) (x w : IVec S16x2048 32) : FVec F S16x2048 .f32 :=
  subf (broadcastInDim S16x2048 ![] bcast_S_S16x2048 (constant S_ .f32 0x3F800000#32))
    (Host.exp (mulf (broadcastInDim S16x2048 ![] bcast_S_S16x2048 (Host.negf (subf (time1 tg) (time0 tg))))
      (mulf (broadcastInDim S16x2048 ![] bcast_S_S16x2048
          (Host.divf (constant S_ .f32 0x3F800000#32) (subf (constant S_ .f32 0x3F800000#32) (time0 tg))))
        (uitofp .f32 (cmpi .ne w x)))))

/-- The next token: the sampled word where the draw falls below that probability. -/
def next (tg : FVec F S2 .f32) (x w : IVec S16x2048 32) (z : FVec F S16x2048 .f32) : IVec S16x2048 32 :=
  select (cmpf .olt z (change tg x w)) w x

end Cert.ReferenceIdeal.Plain

end
-- ==== Proof.Reference.Run.lean ====
/-
  The reference's run: it is a straight line of host operations, so it ends with its results at the functions of
  `Reference/Text.lean` and its arguments untouched.
-/
module

public import proofs.«01_k».proof.Proof.Reference.Text
public import Idealize.ShloMosaic.Lib.Claim

@[expose] public section

set_option maxRecDepth 65536

noncomputable section

namespace Cert.ReferenceIdeal.Plain

open Cert.ReferenceIdeal Cert.ReferenceIdeal.Gen Idealize.ShloMosaic Idealize.ShloMosaic.StableHlo Idealize.SL.Sem

variable {F : FTy → Type} [FloatOps F]

/-- The operations of the reference, in order, its calls opened. -/
abbrev ops : List (HloOp τ sig (Elt F)) :=
  [ unary main_arg1 main_v0 (extractStridedSlice S1 ![0] · slices_S2_S1_0),
    reshape main_v0 main_v1 rfl shapeCasts_S1_S_,
    unary main_arg1 main_v2 (extractStridedSlice S1 ![1] · slices_S2_S1_1),
    reshape main_v2 main_v3 rfl shapeCasts_S1_S_,
    unary main_arg1 main_v4 (extractStridedSlice S1 ![0] · slices_S2_S1_0),
    reshape main_v4 main_v5 rfl shapeCasts_S1_S_,
    binary main_v3 main_v5 main_v6 subf,
    nullary main_call0_c (constantI S_ 32 0#32),
    unary main_call0_c main_call0_v0 (broadcastInDim S16x2048 ![] bcast_S_S16x2048),
    binary main_arg0 main_call0_v0 main_call0_v1 (cmpi .slt),
    nullary main_call0_c_0 (constantI S_ 32 1024#32),
    unary main_call0_c_0 main_call0_v2 (broadcastInDim S16x2048 ![] bcast_S_S16x2048),
    binary main_arg0 main_call0_v2 main_call0_v3 addi,
    ternary main_call0_v1 main_call0_v3 main_arg0 main_call0_v4 select,
    unary main_call0_v4 main_call0_v5 (broadcastInDim S16x2048x1 ![0, 1] bcast_S16x2048_S16x2048x1_0_1),
    nullary main_call0_c_1 (constantI S1 32 1023#32),
    nullary main_call0_c_2 (constantI S_ 32 0#32),
    unary main_call0_c_2 main_call0_v6 (broadcastInDim S16x2048x1 ![] bcast_S_S16x2048x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S16x2048x1 ![0, 1, 2] bcast_S1x1x1_S16x2048x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S16x2048x1_S16x2048_d2 h_S_),
    binary main_arg2 main_call0_v5 main_call0_v13 (fun x i => Host.gather gather_S1024x64_S16x2048x1_S16x2048x64_2_0_n_n_0_2_164 x i),
    unary main_call0_v12 main_call0_v14 (broadcastInDim S16x2048x64 ![0, 1] bcast_S16x2048_S16x2048x64_0_1),
    nullary main_call0_cst (constant S_ .f32 0x7FC00000#32),
    unary main_call0_cst main_call0_v15 (broadcastInDim S16x2048x64 ![] bcast_S_S16x2048x64),
    ternary main_call0_v14 main_call0_v13 main_call0_v15 main_v7 select,
    binary main_v7 main_arg3 main_v8 (fun l r => Host.dotGeneral dot_S16x2048x64_S64x1024_S16x2048x1024_2_0_01_1_n_n none l r),
    nullary main_cst (constant S_ .f32 0xFF800000#32),
    binary main_v8 main_cst main_v9 (fun x v => Host.reduce FloatOps.maximumf x v reducesTo_S16x2048x1024_S16x2048_d2 h_S_),
    nullary main_cst_0 (constant S_ .f32 0xFF800000#32),
    unary main_cst_0 main_v10 (broadcastInDim S16x2048 ![] bcast_S_S16x2048),
    binary main_v10 main_v9 main_v11 maximumf,
    unary main_v11 main_v12 (broadcastInDim S16x2048x1 ![0, 1] bcast_S16x2048_S16x2048x1_0_1),
    unary main_v12 main_v13 (broadcastInDim S16x2048x1024 ![0, 1, 2] bcast_S16x2048x1_S16x2048x1024_0_1_2),
    binary main_v8 main_v13 main_v14 subf,
    unary main_v14 main_v15 Host.exp,
    nullary main_cst_1 (constant S_ .f32 0x00000000#32),
    binary main_v15 main_cst_1 main_v16 (fun x v => Host.reduceAdd x v reducesTo_S16x2048x1024_S16x2048_d2 h_S_),
    unary main_v16 main_v17 (broadcastInDim S16x2048x1 ![0, 1] bcast_S16x2048_S16x2048x1_0_1),
    unary main_v17 main_v18 (broadcastInDim S16x2048x1024 ![0, 1, 2] bcast_S16x2048x1_S16x2048x1024_0_1_2),
    binary main_v15 main_v18 main_v19 Host.divf,
    unary main_arg4 main_v20 Host.log,
    unary main_v20 main_v21 Host.negf,
    unary main_v21 main_v22 Host.log,
    unary main_v22 main_v23 Host.negf,
    unary main_v19 main_v24 Host.log,
    binary main_v24 main_v23 main_v25 addf,
    nullary main_call1_v0 (iotaInDim S16x2048x1024 32 2),
    nullary main_call1_cst (constant S_ .f32 0xFF800000#32),
    nullary main_call1_c (constantI S_ 32 0#32),
    quaternary main_v25 main_call1_v0 main_call1_cst main_call1_c main_call1_v1_0 (fun x y u v j => (Host.argReduce reducer_argmax_f32_i32 x y u v reducesTo_S16x2048x1024_S16x2048_d2 h_S_ j).1),
    quaternary main_v25 main_call1_v0 main_call1_cst main_call1_c main_v26 (fun x y u v j => (Host.argReduce reducer_argmax_f32_i32 x y u v reducesTo_S16x2048x1024_S16x2048_d2 h_S_ j).2),
    nullary main_cst_2 (constant S_ .f32 0x3F800000#32),
    binary main_cst_2 main_v1 main_v27 subf,
    nullary main_cst_3 (constant S_ .f32 0x3F800000#32),
    binary main_cst_3 main_v27 main_v28 Host.divf,
    binary main_v26 main_arg0 main_v29 (cmpi .ne),
    unary main_v29 main_v30 (uitofp .f32),
    unary main_v28 main_v31 (broadcastInDim S16x2048 ![] bcast_S_S16x2048),
    binary main_v31 main_v30 main_v32 mulf,
    unary main_v6 main_v33 Host.negf,
    unary main_v33 main_v34 (broadcastInDim S16x2048 ![] bcast_S_S16x2048),
    binary main_v34 main_v32 main_v35 mulf,
    unary main_v35 main_v36 Host.exp,
    nullary main_cst_4 (constant S_ .f32 0x3F800000#32),
    unary main_cst_4 main_v37 (broadcastInDim S16x2048 ![] bcast_S_S16x2048),
    binary main_v37 main_v36 main_v38 subf,
    binary main_arg5 main_v38 main_v39 (cmpf .olt),
    ternary main_v39 main_v26 main_arg0 main_v40 select ]

theorem main_eq (c : Dev nD) : main (F := F) c = seq ops := rfl

theorem ops_inside : (ops : List (HloOp τ sig (Elt F))).Forall fun op => op.bufs ⊆ tcRefs τ sig := by simp

variable (m : (ℓ : Loc nD τ sig) → Buf (Elt F) ℓ) (ρ : Dev nD → PrngReg)

/-- What device `c` holds in `b` when the run starts. -/
abbrev at0 (c : Dev nD) (b : Ref sig .tc) : Buf (Elt F) ((c.tc : Thread nD τ).loc b) := m ((c.tc : Thread nD τ).loc b)

/-- The word the reference samples. -/
def sampled (c : Dev nD) : IVec S16x2048 32 :=
  word (scores (logits (at0 m c main_arg0) (at0 m c main_arg2) (at0 m c main_arg3)) (at0 m c main_arg4))

theorem ends_next (c : Dev nD) : after ops (launchContents m c) (Proc.devRef .tc main_v40)
    = next (at0 m c main_arg1) (at0 m c main_arg0) (sampled m c) (at0 m c main_arg5) := by
  after_results_simp
  rfl

theorem ends_change (c : Dev nD) : after ops (launchContents m c) (Proc.devRef .tc main_v38)
    = change (at0 m c main_arg1) (at0 m c main_arg0) (sampled m c) := by
  after_results_simp
  rfl

/-- Every execution of the reference ends with its two results at those functions and its arguments as they were. -/
theorem run : θ_run defs (onTc (τ := τ) (main (F := F))) ⟨m, fun _ => 0, ρ⟩ fun r =>
    (∀ c : Dev nD,
      r.2.mem ((c.tc : Thread nD τ).loc main_v40) = next (at0 m c main_arg1) (at0 m c main_arg0) (sampled m c) (at0 m c main_arg5)
      ∧ r.2.mem ((c.tc : Thread nD τ).loc main_v38) = change (at0 m c main_arg1) (at0 m c main_arg0) (sampled m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 :=
  θ_run_mono (run_seq (by decide) (by decide) defs main (fun _ => ops) main_eq (fun _ => ops_inside) m ρ) fun r h =>
    ⟨fun c => ⟨(h c main_v40).trans (ends_next m c), (h c main_v38).trans (ends_change m c),
      (h c main_arg0).trans (by after_results_simp), (h c main_arg1).trans (by after_results_simp),
      (h c main_arg2).trans (by after_results_simp), (h c main_arg3).trans (by after_results_simp),
      (h c main_arg4).trans (by after_results_simp), (h c main_arg5).trans (by after_results_simp)⟩,
    sem_eq_zero_of_no_sems (by decide) r.2⟩

end Cert.ReferenceIdeal.Plain

end
-- ==== Proof.Sampling.Key.lean ====
/-
  The sampled word, over the extended reals.

  A position has a logit `L v` and a uniform draw `u v` for every word `v`.  The reference gives the word the score
  `log (softmax L) v - log (- log (u v))`; the kernel gives it a key in base two.  With `c = 1 / log 2` the key is
  `c * (score - r) + k` for two reals `r`, `k` that do not depend on the word, unless every score is `-∞`.  So the word
  that alone has the greatest score alone has the greatest key (`key_lt`).
-/
module

public import Idealize.ShloMosaic.PureOps.Ideal.Laws
public import Idealize.ShloMosaic.Lib.IdealHost

@[expose] public section

noncomputable section

namespace Cert.Sampling

open Idealize.ShloMosaic

/-! ## Logarithms -/

theorem log_coe {r : ℝ} (h : 0 < r) : Ideal.log (r : EReal) = (Real.log r : EReal) := by
  show (if r ≤ 0 then (⊥ : EReal) else (Real.log r : EReal)) = _
  rw [if_neg (not_le.mpr h)]

theorem log_coe_nonpos {r : ℝ} (h : r ≤ 0) : Ideal.log (r : EReal) = ⊥ := by
  show (if r ≤ 0 then (⊥ : EReal) else (Real.log r : EReal)) = _
  rw [if_pos h]

/-- The logarithm of a product with a positive real. -/
theorem log_mul {c : ℝ} (hc : 0 < c) (y : EReal) : Ideal.log ((c : EReal) * y) = (Real.log c : EReal) + Ideal.log y := by
  induction y with
  | bot => rw [EReal.coe_mul_bot_of_pos hc]; show (⊥ : EReal) = _ + ⊥; rw [EReal.add_bot]
  | top => rw [EReal.coe_mul_top_of_pos hc]; show (⊤ : EReal) = _ + ⊤; rw [EReal.coe_add_top]
  | coe y =>
    rw [← EReal.coe_mul]
    rcases le_or_gt y 0 with h | h
    · rw [log_coe_nonpos (mul_nonpos_of_nonneg_of_nonpos hc.le h), log_coe_nonpos h, EReal.add_bot]
    · rw [log_coe (mul_pos hc h), log_coe h, Real.log_mul hc.ne' h.ne', EReal.coe_add]

/-! ## The reference's score and the kernel's key -/

variable {ι : Type} [Fintype ι]

/-- The greatest logit, from `-∞`. -/
def greatest (L : ι → EReal) : EReal := max ⊥ (Finset.univ.fold max ⊥ L)

/-- The exponential of a logit less the greatest. -/
def weight (L : ι → EReal) (v : ι) : EReal := Ideal.exp (L v - greatest L)

/-- The score of a word: the logarithm of its softmax plus its Gumbel noise. -/
def score (L u : ι → EReal) (v : ι) : EReal :=
  Ideal.log (Ideal.div (weight L v) (0 + ∑ w, weight L w)) + -Ideal.log (-Ideal.log (u v))

/-- The key of a word, from a logit already scaled by `c`. -/
def key (c : EReal) (K u : ι → EReal) (v : ι) : EReal := K v - Ideal.log (0 - Ideal.log (u v) * c) * c

/-- The key is `c` times the logit less the noise's logarithm, plus a real. -/
theorem key_eq {c : ℝ} (hc : 0 < c) (L u : ι → EReal) (v : ι) :
    key c (fun w => (c : EReal) * L w) u v
      = (c : EReal) * (L v + -Ideal.log (-Ideal.log (u v))) + ((-(Real.log c * c) : ℝ) : EReal) := by
  unfold key
  have h0 : (0 : EReal) - Ideal.log (u v) * c = (c : EReal) * -Ideal.log (u v) := by
    rw [zero_sub, mul_comm, ← mul_neg]
  have hd : ∀ a b : EReal, (c : EReal) * (a + b) = c * a + c * b := fun a b =>
    EReal.left_distrib_of_nonneg_of_ne_top (by exact_mod_cast hc.le) (EReal.coe_ne_top c) a b
  show (c : EReal) * L v - _ = _
  rw [h0, log_mul hc, hd, mul_comm _ (c : EReal), hd]
  generalize Ideal.log (-Ideal.log (u v)) = n
  rw [mul_neg, ← EReal.coe_mul, sub_eq_add_neg,
    EReal.neg_add (.inl (EReal.coe_ne_bot _)) (.inl (EReal.coe_ne_top _)), sub_eq_add_neg, add_comm (-(_ : EReal)),
    ← add_assoc, ← EReal.coe_neg, mul_comm (Real.log c)]

theorem le_greatest (L : ι → EReal) (v : ι) : L v ≤ greatest L :=
  le_max_of_le_right ((Finset.le_fold_max (L v)).mpr (.inr ⟨v, Finset.mem_univ v, le_rfl⟩))

theorem greatest_mem [Nonempty ι] (L : ι → EReal) : ∃ v, L v = greatest L := by
  obtain ⟨v, -, hv⟩ := Finset.exists_max_image (Finset.univ : Finset ι) L Finset.univ_nonempty
  refine ⟨v, le_antisymm (le_greatest L v) (max_le bot_le ((Finset.fold_max_le (L v)).mpr ⟨bot_le, fun w hw => hv w hw⟩))⟩

/-- If the greatest logit is infinite, no word has a weight, and every score is `-∞`. -/
theorem score_bot (L u : ι → EReal) (h : greatest L = ⊤ ∨ greatest L = ⊥) (v : ι) : score L u v = ⊥ := by
  have hw : ∀ w, weight L w = 0 := fun w => by
    unfold weight
    have e : L w - greatest L = ⊥ := by
      rcases h with h | h
      · rw [h, sub_eq_add_neg, EReal.neg_top, EReal.add_bot]
      · have : L w = ⊥ := le_bot_iff.mp (h ▸ le_greatest L w)
        rw [this, sub_eq_add_neg, EReal.bot_add]
    rw [e]; rfl
  unfold score
  simp only [hw, Finset.sum_const_zero, add_zero]
  have : Ideal.div 0 0 = ⊥ := by unfold Ideal.div; rw [if_pos rfl, if_neg (lt_irrefl _)]
  rw [this]
  show (⊥ : EReal) + _ = ⊥
  rw [EReal.bot_add]

/-- Otherwise a score is the logit less the noise's logarithm, plus a real. -/
theorem score_eq [Nonempty ι] (L u : ι → EReal) (h : greatest L ≠ ⊤) (h' : greatest L ≠ ⊥) :
    ∃ r : ℝ, ∀ v, score L u v = L v + -Ideal.log (-Ideal.log (u v)) + (r : EReal) := by
  obtain ⟨m, hm⟩ : ∃ m : ℝ, greatest L = (m : EReal) := ⟨_, (EReal.coe_toReal h h').symm⟩
  -- a weight is a real that is not negative
  have hw : ∀ v, ∃ a : ℝ, 0 ≤ a ∧ weight L v = (a : EReal) := fun v => by
    unfold weight
    rw [hm]
    have hle := le_greatest L v
    rw [hm] at hle
    generalize L v = x at hle ⊢
    induction x with
    | bot => exact ⟨0, le_rfl, by rw [sub_eq_add_neg, EReal.bot_add]; rfl⟩
    | top => exact absurd (top_le_iff.mp hle) (EReal.coe_ne_top m)
    | coe x => exact ⟨Real.exp (x - m), (Real.exp_pos _).le, by rw [← EReal.coe_sub]; rfl⟩
  choose a ha0 ha using hw
  obtain ⟨v₀, hv₀⟩ := greatest_mem L
  have h1 : a v₀ = 1 := by
    have : weight L v₀ = ((1 : ℝ) : EReal) := by
      unfold weight; rw [hv₀, hm, ← EReal.coe_sub, sub_self]
      show ((Real.exp 0 : ℝ) : EReal) = _
      rw [Real.exp_zero]
    exact_mod_cast (ha v₀).symm.trans this
  have hS : (0 : EReal) + ∑ w, weight L w = ((∑ w, a w : ℝ) : EReal) := by
    rw [zero_add, Finset.sum_congr rfl fun w _ => ha w]
    exact (map_sum (⟨⟨fun x : ℝ => (x : EReal), EReal.coe_zero⟩, EReal.coe_add⟩ : ℝ →+ EReal) a Finset.univ).symm
  have hpos : 0 < ∑ w, a w :=
    lt_of_lt_of_le (by rw [h1]; exact one_pos) (Finset.single_le_sum (fun w _ => ha0 w) (Finset.mem_univ v₀))
  refine ⟨-m - Real.log (∑ w, a w), fun v => ?_⟩
  have hlog : Ideal.log (Ideal.div (weight L v) (0 + ∑ w, weight L w)) = L v + ((-m - Real.log (∑ w, a w) : ℝ) : EReal) := by
    rw [hS]
    unfold Ideal.div
    rw [if_neg (by exact_mod_cast hpos.ne'), ← EReal.coe_inv, mul_comm, log_mul (inv_pos.mpr hpos)]
    unfold weight
    rw [hm]
    have hle := le_greatest L v
    rw [hm] at hle
    generalize L v = x at hle ⊢
    induction x with
    | bot =>
      rw [sub_eq_add_neg, EReal.bot_add, EReal.bot_add]
      show _ + Ideal.log ((0 : ℝ) : EReal) = _
      rw [log_coe_nonpos le_rfl, EReal.add_bot]
    | top => exact absurd (top_le_iff.mp hle) (EReal.coe_ne_top m)
    | coe x =>
      rw [← EReal.coe_sub]
      show _ + Ideal.log ((Real.exp (x - m) : ℝ) : EReal) = _
      rw [log_coe (Real.exp_pos _), Real.log_exp, Real.log_inv, ← EReal.coe_add, ← EReal.coe_add]
      congr 1; ring
  unfold score
  rw [hlog, add_assoc, add_assoc, add_comm ((_ : ℝ) : EReal)]

/-- The word that alone has the greatest score alone has the greatest key. -/
theorem key_lt {c : ℝ} (hc : 0 < c) (L u : ι → EReal) {v w : ι} (h : score L u v < score L u w) :
    key c (fun i => (c : EReal) * L i) u v < key c (fun i => (c : EReal) * L i) u w := by
  haveI : Nonempty ι := ⟨v⟩
  by_cases hi : greatest L = ⊤ ∨ greatest L = ⊥
  · rw [score_bot L u hi, score_bot L u hi] at h
    exact absurd h (lt_irrefl _)
  · obtain ⟨r, hr⟩ := score_eq L u (fun e => hi (.inl e)) (fun e => hi (.inr e))
    rw [hr v, hr w] at h
    rw [key_eq hc, key_eq hc]
    have hlt := lt_of_add_lt_add_right h
    have hm : ∀ a b : EReal, a < b → (c : EReal) * a < (c : EReal) * b := fun a b hab => by
      by_contra hle
      have hle := mul_le_mul_of_nonneg_left (not_lt.mp hle) (show (0 : EReal) ≤ ((c⁻¹ : ℝ) : EReal) by exact_mod_cast (inv_pos.mpr hc).le)
      rw [← mul_assoc, ← mul_assoc, ← EReal.coe_mul, inv_mul_cancel₀ hc.ne', EReal.coe_one, one_mul, one_mul] at hle
      exact absurd hab (not_lt.mpr hle)
    exact EReal.add_lt_add_right_coe (hm _ _ hlt) _

end Cert.Sampling

end
-- ==== Proof.Sampling.Keys.lean ====
/-
  The kernel's keys at a grid point, element by element over the extended reals.
-/
module

public import proofs.«01_k».proof.Proof.KernelIdeal.Rows
public import proofs.«01_k».proof.Proof.Sampling.Key

@[expose] public section

noncomputable section

namespace Cert.KernelIdeal.Sampler

open Cert.KernelIdeal Cert.KernelIdeal.Gen Cert.Sampling
open Idealize.ShloMosaic Idealize.ShloMosaic.TcCoe Idealize.ShloMosaic.Pointwise

section
variable {F : FTy → Type} [FloatOps F] [Named F]

/-- The tokens of the point's row, as floats. -/
def tokens (i : grid0.Coords) (xf : FVec F S16x2048 .f32) : FVec F S1x2048 .f32 :=
  matmul dot_S1x16_S16x2048_S1x2048_1_0_0_1_n_n (some .fp32)
    (sitofp .f32 (extui 32 (cmpi .eq (iota .tc S1x16 32 [1] iota_S1x16_d1_w32) (broadcast S1x16 (BitVec.ofNat 32 (i 0).val))) natLt_1_32))
    xf (constant S1x2048 .f32 0x00000000#32)

/-- The rows of `emb` those tokens name, as columns. -/
def columns (tok : FVec F S1x2048 .f32) (emb : FVec F S1024x64 .bf16) : FVec F S64x2048 .f32 :=
  matmul dot_S1024x64_S1024x2048_S64x2048_0_0_1_1_n_n none emb
    (truncf .bf16 (sitofp .f32 (extui 32 (cmpi .eq (broadcastTo S1024x2048 (fptosi 32 tok) broadcasts_S1x2048_S1024x2048)
      (iota .tc S1024x2048 32 [0] iota_S1024x2048_d0_w32)) natLt_1_32)) bitsLt_bf16_f32)
    (constant S64x2048 .f32 0x00000000#32)

/-- The logits in base two. -/
def scaled (col : FVec F S64x2048 .f32) (w : FVec F S64x1024 .f32) : FVec F S2048x1024 .f32 :=
  matmul dot_S64x2048_S64x1024_S2048x1024_0_0_1_1_n_n none (truncf .bf16 col bitsLt_bf16_f32)
    (truncf .bf16 (mulf w (broadcast S64x1024 (Named.named κ "inv_ln2" 0x3FB8AA3B#32))) bitsLt_bf16_f32)
    (constant S2048x1024 .f32 0x00000000#32)

/-- The keys. -/
def keys (log2 : FVec F S2048x1024 .f32) (u : FVec F S1x2048x1024 .f32) : FVec F S2048x1024 .f32 :=
  subf log2
    (mulf (log (subf (broadcast S2048x1024 (Scalar.ofBits .f32 0x00000000#32))
        (mulf (log (shapeCast S2048x1024 u shapeCasts_S1x2048x1024_S2048x1024)) (broadcast S2048x1024 (Named.named κ "inv_ln2" 0x3FB8AA3B#32)))))
      (broadcast S2048x1024 (Named.named κ "inv_ln2" 0x3FB8AA3B#32)))

/-- Where a key is its position's greatest. -/
def marks (k : FVec F S2048x1024 .f32) : FVec F S2048x1024 .bf16 :=
  truncf .bf16 (sitofp .f32 (extui 32 (cmpf .oeq k
    (broadcastTo S2048x1024 (shapeCast S2048x1 (multiReduction .maximumf [1] S2048 k 0xFF800000#32 reduces_S2048x1024_S2048 (.inl rfl) rfl)
      shapeCasts_S2048_S2048x1) broadcasts_S2048x1_S2048x1024)) natLt_1_32)) bitsLt_bf16_f32

theorem pay5_eq (i : grid0.Coords) (xf : Vec F S16x2048 .f32) (emb : Vec F S1024x64 .bf16) (w : Vec F S64x1024 .f32)
    (u : Vec F S1x2048x1024 .f32) :
    k0_pay5 i xf emb w u = marks (keys (scaled (columns (tokens i xf) emb) w) u) := by
  unfold k0_pay5 marks keys scaled columns tokens
  simp only [shapeCast_self]

end

/-- The bit of an equality, read as a number: one or zero. -/
theorem bit_val (φ : FTy) (b : BitVec 1) :
    (FloatOps.sitofp φ (BitVec.setWidth 32 b) : Ideal φ) = if b = 1#1 then (1 : EReal) else 0 := by
  have h : ∀ b : BitVec 1, (b.setWidth 32).toInt = if b = 1#1 then 1 else 0 := by decide
  show ((((BitVec.setWidth 32 b).toInt : ℤ) : ℝ) : EReal) = _
  rw [h]
  split <;> norm_num

/-- A sum in which one term alone is selected. -/
theorem sum_pick {n : ℕ} (p : Fin n → Prop) [DecidablePred p] (k : Fin n) (hk : ∀ l, p l ↔ l = k) (f : Fin n → EReal) :
    ∑ l, (if p l then (1 : EReal) else 0) * f l = f k := by
  rw [Finset.sum_eq_single k]
  · rw [if_pos ((hk k).mpr rfl), one_mul]
  · intro l _ hl
    rw [if_neg (fun h => hl ((hk l).mp h)), zero_mul]
  · exact fun h => absurd (Finset.mem_univ k) h

theorem tokens_at (i : grid0.Coords) (xf : FVec Ideal S16x2048 .f32) (r : Fin 16) (hr : (i 0).val = r.val) (n : Fin 2048) :
    tokens i xf (ix2 0 n) = xf (ix2 r n) := by
  pointwise [tokens]
  simp only [bit_val]
  rw [sum_pick (fun l : Fin 16 => IntOp.cmpi .eq (BitVec.ofNat 32 l.val) (BitVec.ofNat 32 (i 0).val) = 1#1) r
    (fun l => by
      rw [hr, WordCmp.cmpi_eq_ofNat_eq_one_iff (by omega) (by omega)]
      exact Fin.ext_iff.symm) (fun l => xf (ix2 l n))]

theorem columns_at (tok : FVec Ideal S1x2048 .f32) (emb : FVec Ideal S1024x64 .bf16) (d : Fin 64) (n : Fin 2048) (x : Fin 1024)
    (hx : (FloatOps.fptosi 32 (tok (ix2 0 n)) : BitVec 32) = BitVec.ofNat 32 x.val) : columns tok emb (ix2 d n) = emb (ix2 x d) := by
  pointwise [columns]
  simp only [bit_val, hx]
  rw [← sum_pick (fun l : Fin 1024 => IntOp.cmpi .eq (BitVec.ofNat 32 x.val) (BitVec.ofNat 32 l.val) = 1#1) x
    (fun l => by
      rw [WordCmp.cmpi_eq_ofNat_eq_one_iff (by omega) (by omega)]
      exact ⟨fun h => (Fin.ext h).symm, fun h => h ▸ rfl⟩) (fun l => emb (ix2 l d))]
  exact Finset.sum_congr rfl fun l _ => mul_comm _ _

/-- The reciprocal of the logarithm of two. -/
abbrev rate : ℝ := (Real.log 2)⁻¹

theorem rate_pos : 0 < rate := inv_pos.mpr (Real.log_pos (by norm_num))

theorem named_rate : (Named.named κ "inv_ln2" 0x3FB8AA3B#32 : Ideal .f32) = ((rate : ℝ) : EReal) := rfl

theorem scaled_at (col : FVec Ideal S64x2048 .f32) (w : FVec Ideal S64x1024 .f32) (n : Fin 2048) (v : Fin 1024) :
    scaled col w (ix2 n v) = (rate : EReal) * ∑ d : Fin 64, col (ix2 d n) * w (ix2 d v) := by
  pointwise [scaled]
  rw [named_rate]
  have hd : ∀ s : Finset (Fin 64), ∑ d ∈ s, col (ix2 d n) * (w (ix2 d v) * (rate : EReal)) = (rate : EReal) * ∑ d ∈ s, col (ix2 d n) * w (ix2 d v) := fun s => by
    classical
    induction s using Finset.induction_on with
    | empty => rw [Finset.sum_empty, Finset.sum_empty, mul_zero]
    | insert d s hd ih =>
      rw [Finset.sum_insert hd, Finset.sum_insert hd, ih,
        EReal.left_distrib_of_nonneg_of_ne_top (by exact_mod_cast rate_pos.le) (EReal.coe_ne_top rate), ← mul_assoc (col _), mul_comm (rate : EReal) (_ * _)]
  exact hd Finset.univ

theorem keys_at (l : FVec Ideal S2048x1024 .f32) (u : FVec Ideal S1x2048x1024 .f32) (n : Fin 2048) (v : Fin 1024) :
    keys l u (ix2 n v) = key (rate : EReal) (fun w => l (ix2 n w)) (fun w => u (ix3 0 n w)) v := by
  pointwise [keys]
  rfl

/-- The marks of a position in which one key alone is the greatest. -/
theorem marks_at (k : FVec Ideal S2048x1024 .f32) (n : Fin 2048) (v : Fin 1024)
    (h : ∀ w, w ≠ v → (show EReal from k (ix2 n w)) < k (ix2 n v)) (w : Fin 1024) :
    marks k (ix2 n w) = if w = v then (1 : EReal) else 0 := by
  pointwise [marks]
  have hmax : Finset.univ.fold max (Ideal.ofBits .f32 0xFF800000#32) (fun x => k (ix2 n x)) = k (ix2 n v) := by
    apply le_antisymm
    · refine (Finset.fold_max_le _).mpr ⟨?_, fun x _ => ?_⟩
      · have e : Ideal.ofBits .f32 0xFF800000#32 = ⊥ := by simp [Ideal.ofBits, Ideal.ieee]
        rw [e]; exact bot_le
      · rcases eq_or_ne x v with rfl | hx
        · exact le_rfl
        · exact (h x hx).le
    · exact (Finset.le_fold_max _).mpr (.inr ⟨v, Finset.mem_univ v, le_rfl⟩)
  rw [hmax, bit_val]
  rcases eq_or_ne w v with rfl | hw
  · rw [if_pos rfl, if_pos]; simp
  · rw [if_neg hw, if_neg]
    have := (h w hw).ne
    simp [this]

end Cert.KernelIdeal.Sampler

end
-- ==== Proof.Sampling.Words.lean ====
/-
  The word the kernel samples at a position, over the extended reals.

  The kernel reads the word off the marks with a table of two rows, the quotient and the remainder of every word by four,
  and four times the first plus the second is the word again.
-/
module

public import proofs.«01_k».proof.Proof.Sampling.Keys

@[expose] public section

noncomputable section

namespace Cert.KernelIdeal.Sampler

open Cert.KernelIdeal Cert.KernelIdeal.Gen Cert.Sampling
open Idealize.ShloMosaic Idealize.ShloMosaic.TcCoe Idealize.ShloMosaic.Pointwise

/-! ## The table -/

/-- The quotient of a word by four, rounded down, as the kernel computes it. -/
def quotient (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 4#32 0#32)) (Scalar.extui (Scalar.cmpi .slt 4#32 0#32))))
      (IntOp.cmpi .ne (IntOp.remsi ArithUnit.vector x 4#32) 0#32))
    (IntOp.subi (IntOp.divsi ArithUnit.vector x 4#32) 1#32) (IntOp.divsi ArithUnit.vector x 4#32)

/-- The divisor, one in place of zero. -/
def divisor : BitVec 32 := Scalar.select (Scalar.cmpi .eq 4#32 0#32) 1#32 4#32

/-- The remainder of a word by four, not negative. -/
def remainder (x : BitVec 32) : BitVec 32 :=
  Scalar.select
    (IntOp.andi (IntOp.xori (IntOp.cmpi .slt (IntOp.remsi ArithUnit.vector x divisor) 0#32) (Scalar.cmpi .slt divisor 0#32))
      (IntOp.cmpi .ne (IntOp.remsi ArithUnit.vector x divisor) 0#32))
    (IntOp.addi (IntOp.remsi ArithUnit.vector x divisor) divisor) (IntOp.remsi ArithUnit.vector x divisor)

theorem quotient_val : ∀ v : Fin 1024, (quotient (BitVec.ofNat 32 v.val)).toInt = ((v.val / 4 : ℕ) : ℤ) := by decide +kernel

theorem remainder_val : ∀ v : Fin 1024, (remainder (BitVec.ofNat 32 v.val)).toInt = ((v.val % 4 : ℕ) : ℤ) := by decide +kernel

theorem sitofp_val (φ : FTy) (b : BitVec 32) (k : ℕ) (h : b.toInt = (k : ℤ)) : (FloatOps.sitofp φ b : Ideal φ) = ((k : ℝ) : EReal) := by
  show (((b.toInt : ℤ) : ℝ) : EReal) = _
  rw [h, Int.cast_natCast]

theorem table_high (v : Fin 1024) : (k0_pay6 : FVec Ideal S2x1024 .bf16) (ix2 0 v) = (((v.val / 4 : ℕ) : ℝ) : EReal) := by
  pointwise [k0_pay6]
  exact sitofp_val .bf16 (quotient (BitVec.ofNat 32 v.val)) _ (quotient_val v)

theorem table_low (v : Fin 1024) : (k0_pay6 : FVec Ideal S2x1024 .bf16) (ix2 1 v) = (((v.val % 4 : ℕ) : ℝ) : EReal) := by
  pointwise [k0_pay6]
  exact sitofp_val .bf16 (remainder (BitVec.ofNat 32 v.val)) _ (remainder_val v)

/-! ## The row read off the marks -/

theorem four : Ideal.ofBits .f32 0x40800000#32 = ((4 : ℝ) : EReal) := by
  simp [Ideal.ofBits, Ideal.ieee, ← EReal.coe_mul]; norm_num

theorem last_word : Ideal.ofBits .f32 0x447FC000#32 = ((1023 : ℝ) : EReal) := by
  simp [Ideal.ofBits, Ideal.ieee, ← EReal.coe_mul]; norm_num

/-- Marks that single one word out give that word. -/
theorem rowOf_at (mask : FVec Ideal S2048x1024 .bf16) (n : Fin 2048) (v : Fin 1024)
    (h : ∀ w, mask (ix2 n w) = if w = v then (1 : EReal) else 0) : rowOf mask (ix2 0 n) = ((v.val : ℝ) : EReal) := by
  pointwise [rowOf]
  simp only [h, mul_comm _ (ite _ _ _)]
  rw [sum_pick (fun w => w = v) v (fun _ => Iff.rfl) (fun x => (k0_pay6 : FVec Ideal S2x1024 .bf16) (ix2 0 x)),
    sum_pick (fun w => w = v) v (fun _ => Iff.rfl) (fun x => (k0_pay6 : FVec Ideal S2x1024 .bf16) (ix2 1 x)),
    table_high, table_low, four, last_word, ← EReal.coe_mul, ← EReal.coe_add]
  have e : (4 : ℝ) * ((v.val / 4 : ℕ) : ℝ) + ((v.val % 4 : ℕ) : ℝ) = (v.val : ℝ) := by exact_mod_cast Nat.div_add_mod v.val 4
  have l : (v.val : ℝ) ≤ 1023 := by exact_mod_cast (by omega : v.val ≤ 1023)
  rw [e]
  exact min_eq_left (by exact_mod_cast l)

/-! ## The word of a point -/

/-- A small whole number, read back as a word. -/
theorem fptosi_nat (k : Fin 1024) : (FloatOps.fptosi (F := Ideal) (φ := .f32) 32 ((k.val : ℝ) : EReal) : BitVec 32) = BitVec.ofNat 32 k.val := by
  show BitVec.ofInt 32 (Ideal.toIntClamped _ _ ((k.val : ℝ) : EReal)) = _
  have hk := k.isLt
  rw [Ideal.toIntClamped_coe, if_pos (Nat.cast_nonneg _), Int.floor_natCast, min_eq_right (by norm_num; omega),
    max_eq_right (by norm_num), BitVec.ofInt_natCast]

/-- Where one word alone has the greatest score, the point's row holds it. -/
theorem sampled_at (i : grid0.Coords) (xf : FVec Ideal S16x2048 .f32) (emb : FVec Ideal S1024x64 .bf16)
    (W : FVec Ideal S64x1024 .f32) (u : FVec Ideal S1x2048x1024 .f32) (r : Fin 16) (hr : (i 0).val = r.val) (n : Fin 2048)
    (k : Fin 1024) (hx : xf (ix2 r n) = ((k.val : ℝ) : EReal)) (v : Fin 1024)
    (h : ∀ w, w ≠ v → score (fun w => ∑ d : Fin 64, emb (ix2 k d) * W (ix2 d w)) (fun w => u (ix3 0 n w)) w
      < score (fun w => ∑ d : Fin 64, emb (ix2 k d) * W (ix2 d w)) (fun w => u (ix3 0 n w)) v) :
    (show EReal from rowOf (k0_pay5 (F := Ideal) i xf emb W u) (ix2 0 n)) = ((v.val : ℝ) : EReal) := by
  show rowOf (F := Ideal) (k0_pay5 i xf emb W u) (ix2 0 n) = _
  rw [pay5_eq]
  have hc : ∀ d, columns (tokens i xf) emb (ix2 d n) = emb (ix2 k d) := fun d =>
    columns_at _ emb d n k (by rw [tokens_at i xf r hr n, hx]; exact fptosi_nat k)
  refine rowOf_at _ n v (marks_at _ n v fun w hw => ?_)
  rw [keys_at, keys_at]
  simp only [scaled_at, hc]
  exact key_lt rate_pos _ _ (h w hw)

end Cert.KernelIdeal.Sampler

end
-- ==== Proof.Sampling.Finish.lean ====
/-
  The jump, over the extended reals: where the sampled word and the token are the same numbers on both sides, the kernel's
  probability of a change and next token are the reference's.
-/
module

public import proofs.«01_k».proof.Proof.Sampling.Words
public import proofs.«01_k».proof.Proof.Reference.Text

@[expose] public section

noncomputable section

namespace Cert.Sampling

open Cert.KernelIdeal Cert.KernelIdeal.Gen Cert.KernelIdeal.Sampler
open Idealize.ShloMosaic Idealize.ShloMosaic.TcCoe Idealize.ShloMosaic.Pointwise

/-! ## The times -/

theorem time0_at (tg : FVec Ideal S2 .f32) :
    (time0 (F := Ideal) (shapeCast S1x2 tg shapeCasts_S2_S1x2) : FVec Ideal S1x1 .f32) (ix2 0 0) = tg (ix1 0) := by
  unfold time0
  rw [View.ld_unit]
  pointwise

theorem time1_at (tg : FVec Ideal S2 .f32) :
    (time1 (F := Ideal) (shapeCast S1x2 tg shapeCasts_S2_S1x2) : FVec Ideal S1x1 .f32) (ix2 0 0) = tg (ix1 1) := by
  unfold time1
  rw [View.ld_unit]
  pointwise

/-! ## Whether the word changed -/

/-- One if the sampled word is not the token, else zero. -/
def moved (v k : Fin 1024) : EReal := if v = k then 0 else 1

theorem moved_floats (v k : Fin 1024) :
    (FloatOps.sitofp .f32 (BitVec.setWidth 32 (BitVec.ofBool (decide (((v.val : ℝ) : EReal) ≠ ((k.val : ℝ) : EReal))))) : Ideal .f32) = moved v k := by
  rw [bit_val, moved]
  have e : (((v.val : ℝ) : EReal) ≠ ((k.val : ℝ) : EReal)) ↔ v ≠ k := by
    rw [Ne, EReal.coe_eq_coe_iff, Nat.cast_inj, ← Fin.ext_iff]
  by_cases h : v = k
  · simp [h]
  · rw [if_neg h, if_pos (by rw [decide_eq_true (e.mpr h)]; rfl)]

theorem moved_words (v k : Fin 1024) :
    (FloatOps.uitofp .f32 (IntOp.cmpi .ne (BitVec.ofNat 32 v.val) (BitVec.ofNat 32 k.val)) : Ideal .f32) = moved v k := by
  rw [moved]
  show ((((IntOp.cmpi .ne (BitVec.ofNat 32 v.val) (BitVec.ofNat 32 k.val)).toNat : ℕ) : ℝ) : EReal) = _
  by_cases h : v = k
  · subst h
    simp [IntOp.cmpi]
  · have hb : BitVec.ofNat 32 v.val ≠ BitVec.ofNat 32 k.val := fun e => h (Fin.ext (by
      have := congrArg BitVec.toNat e
      simp only [BitVec.toNat_ofNat] at this
      omega))
    simp [IntOp.cmpi, h, hb]

/-! ## The two results at a position -/

/-- The probability of a change at the times `s` and `e`. -/
def jump (s e : EReal) (v k : Fin 1024) : EReal := 1 - Ideal.exp (-(e - s) * (Ideal.div 1 (1 - s) * moved v k))

theorem kernel_change_at (tg : FVec Ideal S2 .f32) (x1 xf : FVec Ideal S16x2048 .f32) (b : Fin 16) (n : Fin 2048) (v k : Fin 1024)
    (h1 : x1 (ix2 b n) = ((v.val : ℝ) : EReal)) (hf : xf (ix2 b n) = ((k.val : ℝ) : EReal)) :
    (k0_pay3 (F := Ideal) (time0 (shapeCast S1x2 tg shapeCasts_S2_S1x2)) (time1 (shapeCast S1x2 tg shapeCasts_S2_S1x2))
      (time0 (shapeCast S1x2 tg shapeCasts_S2_S1x2)) x1 xf : FVec Ideal S16x2048 .f32) (ix2 b n) = jump (tg (ix1 0)) (tg (ix1 1)) v k := by
  pointwise [k0_pay3]
  unfold k0_pay2
  rw [shapeCast_self, h1, hf, moved_floats, time0_at, time1_at, zero_sub]
  rfl

theorem kernel_next_at (tg : FVec Ideal S2 .f32) (x1 xf z : FVec Ideal S16x2048 .f32) (b : Fin 16) (n : Fin 2048) (v k : Fin 1024)
    (h1 : x1 (ix2 b n) = ((v.val : ℝ) : EReal)) (hf : xf (ix2 b n) = ((k.val : ℝ) : EReal)) :
    (k0_pay4 (F := Ideal) (time0 (shapeCast S1x2 tg shapeCasts_S2_S1x2)) (time1 (shapeCast S1x2 tg shapeCasts_S2_S1x2))
      (time0 (shapeCast S1x2 tg shapeCasts_S2_S1x2)) x1 xf z : IVec S16x2048 32) (ix2 b n)
      = if (show EReal from z (ix2 b n)) < jump (tg (ix1 0)) (tg (ix1 1)) v k then BitVec.ofNat 32 v.val else BitVec.ofNat 32 k.val := by
  pointwise [k0_pay4]
  rw [kernel_change_at tg x1 xf b n v k h1 hf]
  unfold k0_pay2
  rw [shapeCast_self, h1, hf]
  split
  · exact fptosi_nat v
  · exact fptosi_nat k

theorem plain_change_at (tg : FVec Ideal S2 .f32) (x w : IVec S16x2048 32) (b : Fin 16) (n : Fin 2048) (v k : Fin 1024)
    (hw : w (ix2 b n) = BitVec.ofNat 32 v.val) (hx : x (ix2 b n) = BitVec.ofNat 32 k.val) :
    Cert.ReferenceIdeal.Plain.change tg x w (ix2 b n) = jump (tg (ix1 0)) (tg (ix1 1)) v k := by
  pointwise [Cert.ReferenceIdeal.Plain.change, Cert.ReferenceIdeal.Plain.time0, Cert.ReferenceIdeal.Plain.time1]
  rw [hw, hx, moved_words]
  rfl

theorem plain_next_at (tg : FVec Ideal S2 .f32) (x w : IVec S16x2048 32) (z : FVec Ideal S16x2048 .f32) (b : Fin 16) (n : Fin 2048)
    (v k : Fin 1024) (hw : w (ix2 b n) = BitVec.ofNat 32 v.val) (hx : x (ix2 b n) = BitVec.ofNat 32 k.val) :
    Cert.ReferenceIdeal.Plain.next tg x w z (ix2 b n)
      = if (show EReal from z (ix2 b n)) < jump (tg (ix1 0)) (tg (ix1 1)) v k then BitVec.ofNat 32 v.val else BitVec.ofNat 32 k.val := by
  pointwise [Cert.ReferenceIdeal.Plain.next]
  rw [plain_change_at tg x w b n v k hw hx, hw, hx]

end Cert.Sampling

end
-- ==== Proof.Sampling.Along.lean ====
/-
  Reductions along the last axis of a rank-3 array, at a position: the greatest, a count, and the place of the greatest
  where one element alone is the greatest.
-/
module

public import proofs.«01_k».proof.Proof.Gen.ReferenceIdeal
public import Idealize.ShloMosaic.Lib.Pointwise
public import Idealize.ShloMosaic.Lib.IndicatorCount

@[expose] public section

noncomputable section

namespace Cert.Sampling

open Idealize.ShloMosaic Idealize.ShloMosaic.Pointwise

/-- The word of minus infinity. -/
theorem neg_inf : Ideal.ofBits .f32 0xFF800000#32 = ⊥ := by
  simp [Ideal.ofBits, Ideal.ieee]

/-- Where the elements reduced to `j` are `g k`, one for each `k`. -/
def Fiber {s t : Shape} {axes : List (Fin s.rank)} (h : s.ReducesTo axes t) {c : ℕ} (j : t.Idx) (g : Fin c → s.Idx) : Prop :=
  Function.Injective g ∧ ∀ i, h.drop i = j ↔ ∃ k, g k = i

/-- Along the last axis of three they are the elements of one row. -/
theorem fiber_last {a b c : ℕ} (h : (⟨3, ![a, b, c]⟩ : Shape).ReducesTo [2] ⟨2, ![a, b]⟩) (i : Fin a) (j : Fin b) :
    Fiber h (ix2 i j) fun k : Fin c => ix3 i j k :=
  ⟨fun _ _ e => congrFun e 2, fun x => h.fiber_r3_a2 (ix2 i j) x⟩

section
variable {s t u : Shape} {axes : List (Fin s.rank)} {c : ℕ}

/-- A commutative reduction, at a position. -/
theorem reduce_at {α : Type} (f : α → α → α) [Std.Commutative f] [Std.Associative f] (x : s.Idx → α) (init : u.Idx → α)
    (h : s.ReducesTo axes t) (hu : 0 < u.numel) (j : t.Idx) (g : Fin c → s.Idx) (hg : Fiber h j g) :
    Host.reduce f x init h hu j = Finset.univ.fold f (init (Shape.Idx.first hu)) fun k => x (g k) := by
  rw [Host.reduce_eq_fold, Finset.fold_filter_eq_fold_of_fiber f _ g hg.1 hg.2]

/-- The greatest, from minus infinity. -/
theorem reduce_max_at (x : FVec Ideal s .f32) (h : s.ReducesTo axes t) (hu : 0 < u.numel) (j : t.Idx)
    (g : Fin c → s.Idx) (hg : Fiber h j g) :
    Host.reduce FloatOps.maximumf x (constant u .f32 0xFF800000#32) h hu j
      = (Finset.univ.fold max ⊥ fun k => (show EReal from x (g k)) : EReal) := by
  rw [reduce_at _ _ _ h hu j g hg, ← neg_inf]
  rfl

/-- The elementwise greater. -/
theorem maximumf_at (x y : FVec Ideal s .f32) (j : s.Idx) :
    maximumf x y j = max (show EReal from x j) (show EReal from y j) := rfl

/-- A fold that keeps the pair of greater value ends with the pair whose value alone is the greatest. -/
theorem foldl_argmax (p : Ideal .f32 × BitVec 32) (l : List (Ideal .f32 × BitVec 32))
    (hl : ∀ q ∈ l, q = p ∨ (show EReal from q.1) < p.1) (q : Ideal .f32 × BitVec 32)
    (hq : q = p ∨ ((show EReal from q.1) < p.1 ∧ p ∈ l)) :
    l.foldl Cert.ReferenceIdeal.reducer_argmax_f32_i32 q = p := by
  induction l generalizing q with
  | nil => rcases hq with h | h; exact h; exact absurd h.2 List.not_mem_nil
  | cons r l ih =>
    rw [List.foldl_cons]
    refine ih (fun q hq => hl q (List.mem_cons_of_mem _ hq)) _ ?_
    have hgt : ∀ {x y : EReal}, y < x → FloatOps.cmpf (F := Ideal) (φ := .f32) .ogt x y = 1#1 := fun h => by
      show BitVec.ofBool (decide _) = _; simp [h]
    have hngt : ∀ {x y : EReal}, ¬ y < x → FloatOps.cmpf (F := Ideal) (φ := .f32) .ogt x y = 0#1 := fun h => by
      show BitVec.ofBool (decide _) = _; simp [h]
    have hne : ∀ {x y : EReal}, x ≠ y → FloatOps.cmpf (F := Ideal) (φ := .f32) .oeq x y = 0#1 := fun h => by
      show BitVec.ofBool (decide _) = _; simp [h]
    have hun : ∀ x : EReal, FloatOps.cmpf (F := Ideal) (φ := .f32) .une x x = 0#1 := fun x => by
      show BitVec.ofBool (decide _) = _; simp
    rcases hq with rfl | ⟨hlt, hmem⟩
    · left
      rcases hl r List.mem_cons_self with rfl | hr
      · unfold Cert.ReferenceIdeal.reducer_argmax_f32_i32 Scalar.select
        simp only [ite_self]
      · unfold Cert.ReferenceIdeal.reducer_argmax_f32_i32
        have e : ∀ x : BitVec 1, IntOp.ori 1#1 x = 1#1 := by decide
        simp only [hgt hr, e, Scalar.select]
        rfl
    · rcases hl r List.mem_cons_self with rfl | hr
      · left
        unfold Cert.ReferenceIdeal.reducer_argmax_f32_i32
        simp only [hngt (not_lt.mpr hlt.le), hun, hne hlt.ne]
        have e : IntOp.ori (0#1) 0#1 = 0#1 := rfl
        have e' : ∀ x : BitVec 1, IntOp.andi 0#1 x = 0#1 := by decide
        simp only [e, e', Scalar.select]
        rfl
      · right
        refine ⟨?_, ?_⟩
        · unfold Cert.ReferenceIdeal.reducer_argmax_f32_i32 Scalar.select
          dsimp only
          split
          · exact hlt
          · exact hr
        · rcases List.mem_cons.mp hmem with e | e
          · subst e; exact absurd hr (lt_irrefl _)
          · exact e

/-- The place of the greatest element, where one element alone is the greatest. -/
theorem argmax_at (x : FVec Ideal s .f32) (y : IVec s 32) (ix : FVec Ideal u .f32) (iy : IVec u 32)
    (h : s.ReducesTo axes t) (hu : 0 < u.numel) (j : t.Idx) (g : Fin c → s.Idx) (hg : Fiber h j g) (k : Fin c)
    (hix : (show EReal from ix (Shape.Idx.first hu)) < x (g k))
    (hk : ∀ l, l ≠ k → (show EReal from x (g l)) < x (g k)) :
    (Host.argReduce Cert.ReferenceIdeal.reducer_argmax_f32_i32 x y ix iy h hu j).2 = y (g k) := by
  rw [Ideal.argReduce_eq_reduce2, Host.reduce2_eq_foldl_fiber]
  have hm : ∀ q, q ∈ Host.argReduceFiber x y h j ↔ ∃ l, q = (x (g l), y (g l)) := fun q => by
    unfold Host.argReduceFiber
    simp only [List.mem_map, List.mem_filter, List.mem_finRange, true_and, decide_eq_true_eq]
    constructor
    · rintro ⟨n, hn, rfl⟩
      obtain ⟨l, hl⟩ := (hg.2 _).mp hn
      exact ⟨l, by rw [← hl]⟩
    · rintro ⟨l, rfl⟩
      exact ⟨s.rowMajor (g l), by rw [Equiv.symm_apply_apply]; exact (hg.2 _).mpr ⟨l, rfl⟩, by rw [Equiv.symm_apply_apply]⟩
  rw [foldl_argmax (x (g k), y (g k))]
  · intro q hq
    obtain ⟨l, rfl⟩ := (hm q).mp hq
    by_cases e : l = k
    · left; rw [e]
    · right; exact hk l e
  · right
    exact ⟨hix, (hm _).mpr ⟨k, rfl⟩⟩

/-- The same from minus infinity, for any array of words stated to be that argument maximum. -/
theorem argmax_word (x : FVec Ideal s .f32) (y : IVec s 32) (iy : IVec u 32) (h : s.ReducesTo axes t) (hu : 0 < u.numel)
    (word : IVec t 32) (hword : word = fun j =>
      (Host.argReduce Cert.ReferenceIdeal.reducer_argmax_f32_i32 x y (constant u .f32 0xFF800000#32) iy h hu j).2)
    (j : t.Idx) (g : Fin c → s.Idx) (hg : Fiber h j g) (k l : Fin c) (hl : l ≠ k)
    (hk : ∀ l, l ≠ k → (show EReal from x (g l)) < x (g k)) (w : BitVec 32) (hy : y (g k) = w) : word j = w := by
  subst hword hy
  refine argmax_at x y _ iy h hu j g hg k ?_ hk
  show Ideal.ofBits .f32 0xFF800000#32 < _
  rw [neg_inf]
  exact lt_of_le_of_lt bot_le (hk l hl)

end

/-- A count of exactly one, as a word. -/
theorem count_one {n : ℕ} (hn : n < 2 ^ 32) (p : Fin n → BitVec 1)
    (h : Finset.univ.fold IntOp.addi (0#32) (fun k => (p k).setWidth 32) = 1#32) : ∃ v, p v = 1#1 ∧ ∀ w, p w = 1#1 → w = v := by
  rw [IndicatorCount.fold_addi_setWidth_eq_card] at h
  have hc : (Finset.univ.filter fun k => p k = 1#1).card ≤ n := (Finset.card_le_univ _).trans (by simp)
  have h1 : (Finset.univ.filter fun k => p k = 1#1).card = 1 := by
    have := congrArg BitVec.toNat h
    rw [BitVec.toNat_ofNat, Nat.mod_eq_of_lt (by omega)] at this
    exact this
  obtain ⟨v, hv⟩ := Finset.card_eq_one.mp h1
  refine ⟨v, ?_, fun w hw => ?_⟩
  · have : v ∈ (Finset.univ.filter fun k => p k = 1#1) := by rw [hv]; exact Finset.mem_singleton_self v
    exact (Finset.mem_filter.mp this).2
  · have : w ∈ (Finset.univ.filter fun k => p k = 1#1) := Finset.mem_filter.mpr ⟨Finset.mem_univ w, hw⟩
    rw [hv] at this
    exact Finset.mem_singleton.mp this

end Cert.Sampling

end
-- ==== Proof.Sampling.Scores.lean ====
/-
  The reference's logits, scores and sampled words, element by element over the extended reals.
-/
module

public import proofs.«01_k».proof.Proof.Reference.Text
public import proofs.«01_k».proof.Proof.Sampling.Key
public import proofs.«01_k».proof.Proof.Sampling.Along

@[expose] public section

noncomputable section

namespace Cert.ReferenceIdeal.Plain

open Cert.ReferenceIdeal Cert.ReferenceIdeal.Gen Cert.Sampling
open Idealize.ShloMosaic Idealize.ShloMosaic.Pointwise

theorem logits_at (x : IVec S16x2048 32) (emb : FVec Ideal S1024x64 .f32) (W : FVec Ideal S64x1024 .f32)
    (b : Fin 16) (n : Fin 2048) (v : Fin 1024) :
    logits x emb W (ix3 b n v) = ∑ d : Fin 64, picked emb x (ix3 b n d) * W (ix2 d v) := by
  pointwise [logits]

theorem along_at (a : FVec Ideal S16x2048 .f32) (b : Fin 16) (n : Fin 2048) (v : Fin 1024) :
    along a (ix3 b n v) = a (ix2 b n) := by
  pointwise [along]

/-- The row of elements a position's reduction runs over. -/
theorem row (b : Fin 16) (n : Fin 2048) :
    Fiber reducesTo_S16x2048x1024_S16x2048_d2 (ix2 b n : S16x2048.Idx) (fun v : Fin 1024 => (ix3 b n v : S16x2048x1024.Idx)) :=
  fiber_last _ b n

theorem broadcastInDim_neg_inf (j : S16x2048.Idx) :
    broadcastInDim S16x2048 ![] bcast_S_S16x2048 (constant (F := Ideal) S_ .f32 0xFF800000#32) j = (⊥ : EReal) := neg_inf

theorem top_at (L : FVec Ideal S16x2048x1024 .f32) (b : Fin 16) (n : Fin 2048) :
    top L (ix2 b n) = greatest fun v : Fin 1024 => L (ix3 b n v) := by
  unfold top
  rw [maximumf_at, reduce_max_at L _ _ _ _ (row b n), broadcastInDim_neg_inf]
  rfl

theorem expo_at (L : FVec Ideal S16x2048x1024 .f32) (b : Fin 16) (n : Fin 2048) (v : Fin 1024) :
    expo L (ix3 b n v) = weight (fun w : Fin 1024 => L (ix3 b n w)) v := by
  have e : ∀ (x y : FVec Ideal S16x2048x1024 .f32) j, Host.exp (subf x y) j = Ideal.exp ((x j : EReal) - (y j : EReal)) := fun _ _ _ => rfl
  unfold expo weight
  rw [e, along_at, top_at]

theorem total_at (e : FVec Ideal S16x2048x1024 .f32) (b : Fin 16) (n : Fin 2048) :
    Host.reduceAdd e (constant S_ .f32 0x00000000#32) reducesTo_S16x2048x1024_S16x2048_d2 h_S_ (ix2 b n)
      = 0 + ∑ v : Fin 1024, e (ix3 b n v) := by
  pointwise

theorem scores_at (L u : FVec Ideal S16x2048x1024 .f32) (b : Fin 16) (n : Fin 2048) (v : Fin 1024) :
    scores L u (ix3 b n v) = score (fun w : Fin 1024 => L (ix3 b n w)) (fun w : Fin 1024 => u (ix3 b n w)) v := by
  have e : ∀ (x y : FVec Ideal S16x2048x1024 .f32) j, addf (Host.log x) (Host.negf (Host.log (Host.negf (Host.log y)))) j
      = Ideal.log (x j : EReal) + -Ideal.log (-Ideal.log (y j : EReal)) := fun _ _ _ => rfl
  have e' : ∀ (x y : FVec Ideal S16x2048x1024 .f32) j, Host.divf x y j = Ideal.div (x j : EReal) (y j : EReal) := fun _ _ _ => rfl
  unfold scores prob score
  rw [e, e', along_at, total_at, expo_at]
  simp only [expo_at]

theorem word_eq (s : FVec Ideal S16x2048x1024 .f32) : word s = fun j =>
    (Host.argReduce reducer_argmax_f32_i32 s (iotaInDim S16x2048x1024 32 2) (constant S_ .f32 0xFF800000#32)
      (constantI S_ 32 0#32) reducesTo_S16x2048x1024_S16x2048_d2 h_S_ j).2 := by
  unfold word; rfl

/-- The sampled word is the one whose score alone is the greatest. -/
theorem word_at (s : FVec Ideal S16x2048x1024 .f32) (b : Fin 16) (n : Fin 2048) (v : Fin 1024)
    (h : ∀ w : Fin 1024, w ≠ v → (show EReal from s (ix3 b n w)) < s (ix3 b n v)) : word s (ix2 b n) = BitVec.ofNat 32 v.val := by
  obtain ⟨w, hw⟩ : ∃ w : Fin 1024, w ≠ v := exists_ne v
  have e : iotaInDim S16x2048x1024 32 2 (ix3 b n v) = BitVec.ofNat 32 v.val := rfl
  exact argmax_word s _ _ _ _ (word s) (word_eq s) _ _ (row b n) v w hw h _ e

end Cert.ReferenceIdeal.Plain

end
-- ==== Proof.Sampling.Only.lean ====
/-
  The precondition, read: every token is in range, and at every position one word alone has the greatest score.
-/
module

public import proofs.«01_k».proof.Proof.Gen.Pre_one_sample
public import proofs.«01_k».proof.Proof.Sampling.Scores
public import Idealize.ShloMosaic.Lib.StableHlo.Predicate

@[expose] public section

noncomputable section

namespace Cert.Sampling

open Cert.ReferenceIdeal Cert.ReferenceIdeal.Gen Cert.ReferenceIdeal.Plain
open Idealize.ShloMosaic Idealize.ShloMosaic.Pointwise

/-- The greatest score of every position. -/
def best {F : FTy → Type} [FloatOps F] (s : FVec F S16x2048x1024 .f32) : FVec F S16x2048 .f32 :=
  Host.reduce FloatOps.maximumf s (constant S_ .f32 0xFF800000#32) reducesTo_S16x2048x1024_S16x2048_d2 h_S_

/-- How many words have it. -/
def holders {F : FTy → Type} [FloatOps F] (s : FVec F S16x2048x1024 .f32) : IVec S16x2048 32 :=
  Host.reduce IntOp.addi (extui 32 (cmpf .oeq s (along (best s))) (by decide)) (constantI S_ 32 0#32)
    reducesTo_S16x2048x1024_S16x2048_d2 h_S_

/-- Whether the tokens are in range. -/
def ranged (x : IVec S16x2048 32) : IVec S16x2048 1 :=
  andi (cmpi .sge x (broadcastInDim S16x2048 ![] bcast_S_S16x2048 (constantI S_ 32 0#32)))
    (cmpi .slt x (broadcastInDim S16x2048 ![] bcast_S_S16x2048 (constantI S_ 32 1024#32)))

theorem pre_eq {F : FTy → Type} [FloatOps F] (x : IVec S16x2048 32) (tg : FVec F S2 .f32) (emb : FVec F S1024x64 .f32)
    (W : FVec F S64x1024 .f32) (u : FVec F S16x2048x1024 .f32) (z : FVec F S16x2048 .f32) :
    Cert.Pre_one_sample.fn x tg emb W u z
      = andi (ranged x) (cmpi .eq (holders (scores (logits x emb W) u)) (broadcastInDim S16x2048 ![] bcast_S_S16x2048 (constantI S_ 32 1#32))) := by
  rfl

theorem andi_one (a b : BitVec 1) : IntOp.andi a b = 1#1 → a = 1#1 ∧ b = 1#1 := by revert a b; decide

/-- A token in range is a number below 1024. -/
theorem token_of (x : BitVec 32) (h0 : IntOp.cmpi .sge x 0#32 = 1#1) (h1 : IntOp.cmpi .slt x 1024#32 = 1#1) :
    ∃ k : Fin 1024, x = BitVec.ofNat 32 k.val := by
  have h0 : (0 : ℤ) ≤ x.toInt := by
    have := (StableHlo.Predicate.ofBool_eq_one_iff _).mp (show BitVec.ofBool ((0#32).sle x) = 1#1 from h0)
    simpa [BitVec.sle] using this
  have h1 : x.toInt < 1024 := by
    have := (StableHlo.Predicate.ofBool_eq_one_iff _).mp (show BitVec.ofBool (x.slt 1024#32) = 1#1 from h1)
    simpa [BitVec.slt] using this
  have hx := x.isLt
  rw [BitVec.toInt_eq_toNat_cond] at h0 h1
  split at h0
  · rw [if_pos (by assumption)] at h1
    exact ⟨⟨x.toNat, by omega⟩, BitVec.eq_of_toNat_eq (by rw [BitVec.toNat_ofNat, Nat.mod_eq_of_lt hx])⟩
  · omega

/-- One word alone has the greatest score. -/
theorem unique_at (s : FVec Ideal S16x2048x1024 .f32) (b : Fin 16) (n : Fin 2048) (h : holders s (ix2 b n) = 1#32) :
    ∃ v : Fin 1024, ∀ w : Fin 1024, w ≠ v → (show EReal from s (ix3 b n w)) < s (ix3 b n v) := by
  unfold holders at h
  rw [reduce_at IntOp.addi _ _ _ _ _ _ (row b n)] at h
  have hb : ∀ w : Fin 1024, along (best s) (ix3 b n w) = (Finset.univ.fold max ⊥ fun k : Fin 1024 => (show EReal from s (ix3 b n k)) : EReal) := fun w => by
    rw [along_at]
    exact reduce_max_at s _ _ _ _ (row b n)
  have e : ∀ w : Fin 1024, extui 32 (cmpf .oeq s (along (best s))) (by decide) (ix3 b n w)
      = BitVec.setWidth 32 (BitVec.ofBool (decide ((show EReal from s (ix3 b n w)) = along (best s) (ix3 b n w)))) := fun _ => rfl
  simp only [e, hb] at h
  obtain ⟨v, hv, hu⟩ := count_one (by omega) _ h
  simp only [StableHlo.Predicate.ofBool_eq_one_iff, decide_eq_true_eq] at hv hu
  refine ⟨v, fun w hw => lt_of_le_of_ne ?_ fun he => hw (hu w (he.trans hv))⟩
  rw [hv]
  exact (Finset.le_fold_max _).mpr (.inr ⟨w, Finset.mem_univ w, le_rfl⟩)

/-- What the precondition says at a position. -/
theorem pre_at {x : IVec S16x2048 32} {tg : FVec Ideal S2 .f32} {emb : FVec Ideal S1024x64 .f32}
    {W : FVec Ideal S64x1024 .f32} {u : FVec Ideal S16x2048x1024 .f32} {z : FVec Ideal S16x2048 .f32}
    (h : Cert.Pre_one_sample.fn x tg emb W u z = fun _ => 1#1) (b : Fin 16) (n : Fin 2048) :
    (∃ k : Fin 1024, x (ix2 b n) = BitVec.ofNat 32 k.val)
      ∧ ∃ v : Fin 1024, ∀ w : Fin 1024, w ≠ v
        → (show EReal from scores (logits x emb W) u (ix3 b n w)) < scores (logits x emb W) u (ix3 b n v) := by
  rw [pre_eq] at h
  have h := congrFun h (ix2 b n)
  obtain ⟨h1, h2⟩ := andi_one _ _ h
  obtain ⟨h3, h4⟩ := andi_one _ _ h1
  exact ⟨token_of _ h3 h4, unique_at _ b n (StableHlo.Predicate.cmpi_eq_iff.mp h2)⟩

end Cert.Sampling

end
-- ==== Proof.Sampling.Picked.lean ====
/-
  The row of `emb` a token names, at one element: for a token in range it is that row.
-/
module

public import proofs.«01_k».proof.Proof.Sampling.Scores
public import Idealize.ShloMosaic.Lib.StableHlo.Predicate

@[expose] public section

noncomputable section

namespace Cert.ReferenceIdeal.Plain

open Cert.ReferenceIdeal Cert.ReferenceIdeal.Gen Cert.Sampling
open Idealize.ShloMosaic Idealize.ShloMosaic.Pointwise

/-- Comparisons of a token in range with the bounds. -/
theorem slt_zero (x : Fin 1024) : IntOp.cmpi .slt (BitVec.ofNat 32 x.val) 0#32 = 0#1 := by
  have h := StableHlo.Predicate.slt_ofNat_iff x.val 0 (by omega) (by omega)
  have hb : ∀ b : BitVec 1, ¬ b = 1#1 → b = 0#1 := by decide
  exact hb _ fun e => absurd (h.mp e) (by omega)

theorem sge_zero (x : Fin 1024) : IntOp.cmpi .sge (BitVec.ofNat 32 x.val) 0#32 = 1#1 :=
  (StableHlo.Predicate.sle_ofNat_iff 0 x.val (by omega) (by omega)).mpr (Nat.zero_le _)

theorem sle_last (x : Fin 1024) : IntOp.cmpi .sle (BitVec.ofNat 32 x.val) 1023#32 = 1#1 :=
  (StableHlo.Predicate.sle_ofNat_iff x.val 1023 (by omega) (by omega)).mpr (by omega)

/-- A token in range is its own place. -/
theorem place_at (x : IVec S16x2048 32) (b : Fin 16) (n : Fin 2048) (k : Fin 1024) (hx : x (ix2 b n) = BitVec.ofNat 32 k.val)
    (o : Fin 1) : place x (ix3 b n o) = BitVec.ofNat 32 k.val := by
  pointwise [place]
  rw [hx, slt_zero]
  rfl

/-- It is inside. -/
theorem inside_at (x : IVec S16x2048 32) (b : Fin 16) (n : Fin 2048) (k : Fin 1024) (hx : x (ix2 b n) = BitVec.ofNat 32 k.val) :
    inside x (ix2 b n) = 1#1 := by
  unfold inside
  rw [reduce_at IntOp.andi _ _ _ _ _ _ (fiber_last reducesTo_S16x2048x1_S16x2048_d2 b n)]
  have e : ∀ o : Fin 1, (andi (cmpi .sge (place x) (broadcastInDim S16x2048x1 ![] bcast_S_S16x2048x1 (constantI S_ 32 0#32)))
      (cmpi .sle (place x) (broadcastInDim S16x2048x1 ![0, 1, 2] bcast_S1x1x1_S16x2048x1_0_1_2
        (broadcastInDim S1x1x1 ![2] bcast_S1_S1x1x1_2 (constantI S1 32 1023#32))))) (ix3 b n o) = 1#1 := fun o => by
    show IntOp.andi (IntOp.cmpi .sge (place x (ix3 b n o)) 0#32) (IntOp.cmpi .sle (place x (ix3 b n o)) 1023#32) = 1#1
    rw [place_at x b n k hx, sge_zero, sle_last]; rfl
  simp only [e]
  rfl

/-- The picking of rows of `emb`. -/
abbrev rowsOf : GatherDims S1024x64 S16x2048x1 S16x2048x64 := gather_S1024x64_S16x2048x1_S16x2048x64_2_0_n_n_0_2_164

theorem gather_at (emb : FVec Ideal S1024x64 .f32) (p : IVec S16x2048x1 32) (b : Fin 16) (n : Fin 2048) (d : Fin 64)
    (k : Fin 1024) (hp : p (ix3 b n 0) = BitVec.ofNat 32 k.val) :
    Host.gather rowsOf emb p (ix3 b n d) = emb (ix2 k d) := by
  unfold Host.gather
  refine congrArg emb (funext fun a => Fin.ext ?_)
  have hkept : ∀ a, a ∈ rowsOf.sKept ↔ a = (1 : Fin 2) := by
    intro a
    rw [GatherDims.mem_sKept]
    match a with
    | ⟨0, _⟩ => exact ⟨fun h => absurd (List.mem_singleton.mpr rfl) h.1, fun h => absurd (congrArg Fin.val h) Nat.zero_ne_one⟩
    | ⟨1, _⟩ => exact ⟨fun _ => rfl, fun _ => ⟨fun h => absurd (congrArg Fin.val (List.mem_singleton.mp h)) Nat.one_ne_zero, List.not_mem_nil⟩⟩
  match a with
  | ⟨0, _⟩ =>
    show rowsOf.start (ix3 b n d) p (0 : Fin 2) + rowsOf.batchCoord (ix3 b n d) (0 : Fin 2) + rowsOf.offCoord (ix3 b n d) (0 : Fin 2) = k.val
    rw [GatherDims.batchCoord_eq_zero _ _ _ List.not_mem_nil, GatherDims.offCoord_eq_zero _ _ _ fun h => absurd (congrArg Fin.val ((hkept _).mp h)) Nat.zero_ne_one]
    simp only [Nat.add_zero]
    unfold GatherDims.start
    rw [dif_pos (show (0 : Fin 2) ∈ rowsOf.startIndexMap from List.mem_singleton.mpr rfl)]
    have hs : rowsOf.siIdx (ix3 b n d)
        ⟨List.idxOf (0 : Fin 2) rowsOf.startIndexMap,
          List.idxOf_lt_length_iff.2 (List.mem_singleton.mpr rfl)⟩ = ix3 b n 0 := by
      funext c
      refine Fin.ext ?_
      match c with
      | ⟨0, _⟩ => rfl
      | ⟨1, _⟩ => rfl
      | ⟨2, _⟩ => rfl
    rw [hs, hp, StableHlo.Predicate.toInt_ofNat_small _ (by omega)]
    show min (k.val : ℤ).toNat (1024 - 1) = k.val
    omega
  | ⟨1, _⟩ =>
    show rowsOf.start (ix3 b n d) p (1 : Fin 2) + rowsOf.batchCoord (ix3 b n d) (1 : Fin 2) + rowsOf.offCoord (ix3 b n d) (1 : Fin 2) = d.val
    rw [GatherDims.batchCoord_eq_zero _ _ _ List.not_mem_nil]
    unfold GatherDims.start GatherDims.offCoord
    rw [dif_neg (show ¬ (1 : Fin 2) ∈ rowsOf.startIndexMap by
      intro h; exact absurd (List.mem_singleton.mp h) (by decide)), dif_pos ((hkept _).mpr rfl)]
    simp only [Nat.zero_add]
    rfl

/-- The row picked for a token in range. -/
theorem picked_at (emb : FVec Ideal S1024x64 .f32) (x : IVec S16x2048 32) (b : Fin 16) (n : Fin 2048) (d : Fin 64)
    (k : Fin 1024) (hx : x (ix2 b n) = BitVec.ofNat 32 k.val) : picked emb x (ix3 b n d) = emb (ix2 k d) := by
  unfold picked
  have e : broadcastInDim S16x2048x64 ![0, 1] bcast_S16x2048_S16x2048x64_0_1 (inside x) (ix3 b n d) = inside x (ix2 b n) := by
    pointwise
  rw [ValueIdx.select_apply, e, inside_at x b n k hx, gather_at emb _ b n d k (place_at x b n k hx 0)]
  rfl

end Cert.ReferenceIdeal.Plain

end
-- ==== Proof.KernelIdeal.Blocks.lean ====
/-
  What the points read: every window but the draws' is its whole array, and the draws' window is the point's row.
-/
module

public import proofs.«01_k».proof.Proof.KernelIdeal.Run

@[expose] public section

set_option maxRecDepth 16384

noncomputable section

namespace Cert.KernelIdeal.Sampler

open Cert.KernelIdeal Cert.KernelIdeal.Gen
open Idealize.ShloMosaic Idealize.ShloMosaic.TcCoe Idealize.ShloMosaic.StableHlo Idealize.ShloMosaic.Pointwise
open Idealize.ShloMosaic.Pipeline (Dat Cfg Window)

variable {F : FTy → Type} [FloatOps F] [Named F]
variable (m : (ℓ : Loc nD τ sig) → Buf (Elt F) ℓ) (ρ : Dev nD → PrngReg)

/-! ## The arrays the host operations make -/

theorem V_grid (c : Dev nD) : V m c main_v0 = shapeCast S1x2 (m ((c : Thread nD τ).loc main_arg1)) shapeCasts_S2_S1x2 := by
  unfold V
  after_results_simp
  rfl

theorem V_emb (c : Dev nD) : V m c main_v1 = truncf .bf16 (m ((c : Thread nD τ).loc main_arg2)) bitsLt_bf16_f32 := by
  unfold V
  after_results_simp

theorem V_tokens (c : Dev nD) : V m c main_v2 = sitofp .f32 (m ((c : Thread nD τ).loc main_arg0)) := by
  unfold V
  after_results_simp

/-! ## The whole windows -/

theorem iblk0 (c : Dev nD) (t : Fin cfg0.N) :
    iblk m c 0 t = shapeCast S1x2 (m ((c : Thread nD τ).loc main_arg1)) shapeCasts_S2_S1x2 := by
  have hz : (fun a => win0_0.index t a * main_v0.ty.shape.size a) = fun _ => 0 := funext fun a => by fin_cases a <;> rfl
  exact (Memref.read_access_unit_zero (Elt F) main_v0 hz (fun a => by rw [congrFun hz a]; simp) (V m c main_v0)).trans (V_grid m c)

theorem iblk1 (c : Dev nD) (t : Fin cfg0.N) :
    iblk m c 1 t = truncf .bf16 (m ((c : Thread nD τ).loc main_arg2)) bitsLt_bf16_f32 := by
  have hz : (fun a => win0_1.index t a * main_v1.ty.shape.size a) = fun _ => 0 := funext fun a => by fin_cases a <;> rfl
  exact (Memref.read_access_unit_zero (Elt F) main_v1 hz (fun a => by rw [congrFun hz a]; simp) (V m c main_v1)).trans (V_emb m c)

theorem iblk2 (c : Dev nD) (t : Fin cfg0.N) : iblk m c 2 t = m ((c : Thread nD τ).loc main_arg3) := by
  have hz : (fun a => win0_2.index t a * main_arg3.ty.shape.size a) = fun _ => 0 := funext fun a => by fin_cases a <;> rfl
  exact (Memref.read_access_unit_zero (Elt F) main_arg3 hz (fun a => by rw [congrFun hz a]; simp) (V m c main_arg3)).trans (V_main_arg3 m c)

theorem iblk3 (c : Dev nD) (t : Fin cfg0.N) : iblk m c 3 t = sitofp .f32 (m ((c : Thread nD τ).loc main_arg0)) := by
  have hz : (fun a => win0_3.index t a * main_v2.ty.shape.size a) = fun _ => 0 := funext fun a => by fin_cases a <;> rfl
  exact (Memref.read_access_unit_zero (Elt F) main_v2 hz (fun a => by rw [congrFun hz a]; simp) (V m c main_v2)).trans (V_tokens m c)

theorem iblk5 (c : Dev nD) (t : Fin cfg0.N) : iblk m c 5 t = m ((c : Thread nD τ).loc main_arg5) := by
  have hz : (fun a => win0_5.index t a * main_arg5.ty.shape.size a) = fun _ => 0 := funext fun a => by fin_cases a <;> rfl
  exact (Memref.read_access_unit_zero (Elt F) main_arg5 hz (fun a => by rw [congrFun hz a]; simp) (V m c main_arg5)).trans (V_main_arg5 m c)

/-! ## The draws -/

theorem index4 (t : Fin cfg0.N) : win0_4.index t 0 = t.val ∧ win0_4.index t 1 = 0 ∧ win0_4.index t 2 = 0 := by
  have h : ∀ t : Fin grid0.N, win0_4.index t 0 = t.val ∧ win0_4.index t 1 = 0 ∧ win0_4.index t 2 = 0 := by decide +kernel
  exact h t

/-- A point's draws are its row of them. -/
theorem iblk4 (c : Dev nD) (t : Fin cfg0.N) (b : Fin 16) (hb : t.val = b.val) (n : Fin 2048) (w : Fin 1024) :
    (iblk m c 4 t : Vec F S1x2048x1024 .f32) (ix3 0 n w) = (m ((c : Thread nD τ).loc main_arg4) : Vec F S16x2048x1024 .f32) (ix3 b n w) := by
  have hi := index4 t
  rw [← V_main_arg4 m c]
  unfold iblk
  rw [View.read_apply]
  show V m c main_arg4 _ = V m c main_arg4 _
  congr 1
  funext a
  apply Fin.ext
  match a with
  | ⟨0, _⟩ => show win0_4.index t 0 * 1 + 1 * 0 = b.val; rw [hi.1]; omega
  | ⟨1, _⟩ => show win0_4.index t 1 * 2048 + 1 * n.val = n.val; rw [hi.2.1]; omega
  | ⟨2, _⟩ => show win0_4.index t 2 * 1024 + 1 * w.val = w.val; rw [hi.2.2]; omega

end Cert.KernelIdeal.Sampler

end
-- ==== Proof.KernelIdeal.Value.lean ====
/-
  The sampler's run with its results named: the last point stores both result arrays, whole.
-/
module

public import proofs.«01_k».proof.Proof.KernelIdeal.Blocks
public import Idealize.ShloMosaic.Lib.Pipeline.Value

@[expose] public section

set_option maxRecDepth 16384

noncomputable section

namespace Cert.KernelIdeal.Sampler

open Cert.KernelIdeal Cert.KernelIdeal.Gen
open Idealize.ShloMosaic Idealize.ShloMosaic.TcCoe Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The time grid as the kernel reads it. -/
abbrev times (c : Dev nD) : FVec F S1x2 .f32 := shapeCast S1x2 (m ((c : Thread nD τ).loc main_arg1)) shapeCasts_S2_S1x2

/-- The tokens as floats. -/
abbrev floats (c : Dev nD) : FVec F S16x2048 .f32 := sitofp .f32 (m ((c : Thread nD τ).loc main_arg0))

/-- The next tokens. -/
def nextTokens (c : Dev nD) : IVec S16x2048 32 := chosen (times m c) (words m c) (floats m c) (m ((c : Thread nD τ).loc main_arg5))

/-- The probabilities of a change. -/
def changes (c : Dev nD) : FVec F S16x2048 .f32 := change (times m c) (words m c) (floats m c)

theorem last_point (t : Fin cfg0.N) (h : t.val % 16 = 15) : t = t0_15 := by
  have ht : t.val < 16 := Nat.lt_of_lt_of_eq t.isLt N_0
  exact Fin.ext (by show t.val = 15; omega)

theorem flushed6 (c : Dev nD) (t : Fin cfg0.N) (hf : (cfg0.win 6).flush t = true) :
    (dats m 0 c).flushed 6 t = ((cfg0.win 6).blk t).view.read (Elt F) (nextTokens m c) := by
  obtain rfl := last_point t ((flush0_6 t).mp hf)
  show (cfg0.win 6).cut (grid0.coords t0_15) ((dats m 0 c).after 6 t0_15) = _
  rw [after6, iblk0, iblk3, iblk5]
  have hz : (fun a => win0_6.index t0_15 a * main_v3_0.ty.shape.size a) = fun _ => 0 := funext fun a => by fin_cases a <;> rfl
  exact (Memref.read_access_unit_zero (Elt F) main_v3_0 hz (fun a => by rw [congrFun hz a]; simp) (nextTokens m c)).symm

theorem flushed7 (c : Dev nD) (t : Fin cfg0.N) (hf : (cfg0.win 7).flush t = true) :
    (dats m 0 c).flushed 7 t = ((cfg0.win 7).blk t).view.read (Elt F) (changes m c) := by
  obtain rfl := last_point t ((flush0_7 t).mp hf)
  show (cfg0.win 7).cut (grid0.coords t0_15) ((dats m 0 c).after 7 t0_15) = _
  rw [after7, iblk0, iblk3]
  have hz : (fun a => win0_7.index t0_15 a * main_v3_1.ty.shape.size a) = fun _ => 0 := funext fun a => by fin_cases a <;> rfl
  exact (Memref.read_access_unit_zero (Elt F) main_v3_1 hz (fun a => by rw [congrFun hz a]; simp) (changes m c)).symm

theorem covered6 (i : S16x2048.Idx) : i ∈ ((View.whole main_v3_0).slice (win0_6.rect t0_15)).set := by
  rw [View.set_slice_whole, Rect.mem_set_unit]
  intro a
  have h0 : (i 0 : ℕ) < 16 := (i 0).isLt
  have h1 : (i 1 : ℕ) < 2048 := (i 1).isLt
  match a with
  | ⟨0, _⟩ => exact ⟨Nat.zero_le _, by show (i 0 : ℕ) < 0 * 16 + 16; omega⟩
  | ⟨1, _⟩ => exact ⟨Nat.zero_le _, by show (i 1 : ℕ) < 0 * 2048 + 2048; omega⟩

theorem covered7 (i : S16x2048.Idx) : i ∈ ((View.whole main_v3_1).slice (win0_7.rect t0_15)).set := by
  rw [View.set_slice_whole, Rect.mem_set_unit]
  intro a
  have h0 : (i 0 : ℕ) < 16 := (i 0).isLt
  have h1 : (i 1 : ℕ) < 2048 := (i 1).isLt
  match a with
  | ⟨0, _⟩ => exact ⟨Nat.zero_le _, by show (i 0 : ℕ) < 0 * 16 + 16; omega⟩
  | ⟨1, _⟩ => exact ⟨Nat.zero_le _, by show (i 1 : ℕ) < 0 * 2048 + 2048; omega⟩

theorem final6 (c : Dev nD) : (dats m 0 c).arrAt 6 cfg0.N = nextTokens m c :=
  (dats m 0 c).arrAt_eq_of_cover 6 (nextTokens m c) (flushed6 m c) fun i => ⟨t0_15, (flush0_6 t0_15).mpr rfl, covered6 i⟩

theorem final7 (c : Dev nD) : (dats m 0 c).arrAt 7 cfg0.N = changes m c :=
  (dats m 0 c).arrAt_eq_of_cover 7 (changes m c) (flushed7 m c) fun i => ⟨t0_15, (flush0_7 t0_15).mpr rfl, covered7 i⟩

/-- Every execution ends with the two results at those arrays and the arguments as they were. -/
theorem run : θ_run defs (onTc (τ := τ) (main (F := F))) ⟨m, fun _ => 0, ρ⟩ fun r => ∀ c : Dev nD,
      r.2.mem ((c.tc : Thread nD τ).loc main_v3_0) = nextTokens m c
      ∧ r.2.mem ((c.tc : Thread nD τ).loc main_v3_1) = changes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 6).trans (final6 m c), ((h.1 c).1 7).trans (final7 m c), h.2.1 c⟩)
    (θ_run_and (run_arrays m ρ) (frame m ρ))

end Cert.KernelIdeal.Sampler

end
-- ==== Proof.Sampling.Same.lean ====
/-
  The two sides are one: from equal arguments, every token in range and one word alone of the greatest score at every
  position, the sampled words are the same, and with them both results.
-/
module

public import proofs.«01_k».proof.Proof.Sampling.Finish
public import proofs.«01_k».proof.Proof.Sampling.Only
public import proofs.«01_k».proof.Proof.Sampling.Picked
public import proofs.«01_k».proof.Proof.KernelIdeal.Value

@[expose] public section

noncomputable section

namespace Cert.Sampling

open Cert.KernelIdeal Cert.KernelIdeal.Gen Cert.KernelIdeal.Sampler
open Idealize.ShloMosaic Idealize.ShloMosaic.TcCoe Idealize.ShloMosaic.Pointwise
open Cert.ReferenceIdeal.Plain (logits scores word logits_at scores_at word_at picked_at)

variable (m : (ℓ : Loc nD τ sig) → Buf (Elt Ideal) ℓ) (c : Dev nD)

/-! ## The arguments -/

abbrev argX : IVec S16x2048 32 := m ((c.tc : Thread nD τ).loc main_arg0)
abbrev argT : FVec Ideal S2 .f32 := m ((c.tc : Thread nD τ).loc main_arg1)
abbrev argE : FVec Ideal S1024x64 .f32 := m ((c.tc : Thread nD τ).loc main_arg2)
abbrev argW : FVec Ideal S64x1024 .f32 := m ((c.tc : Thread nD τ).loc main_arg3)
abbrev argU : FVec Ideal S16x2048x1024 .f32 := m ((c.tc : Thread nD τ).loc main_arg4)
abbrev argZ : FVec Ideal S16x2048 .f32 := m ((c.tc : Thread nD τ).loc main_arg5)

/-- A token below 1024, as a float. -/
theorem float_at (x : IVec S16x2048 32) (b : Fin 16) (n : Fin 2048) (k : Fin 1024) (hx : x (ix2 b n) = BitVec.ofNat 32 k.val) :
    (sitofp .f32 x : FVec Ideal S16x2048 .f32) (ix2 b n) = ((k.val : ℝ) : EReal) := by
  pointwise
  rw [hx]
  exact sitofp_val .f32 _ _ (StableHlo.Predicate.toInt_ofNat_small k.val (by omega))

/-- The scratch at a position is what the point of its row samples there. -/
theorem words_row (b : Fin 16) (n : Fin 2048) :
    (words m c : FVec Ideal S16x2048 .f32) (ix2 b n) = rowAt m c (pointOf (ix2 b n)) (ix2 0 n) := by
  show broadcastTo S16x2048 (rowAt m c (pointOf (ix2 b n))) broadcasts_S1x2048_S16x2048 (ix2 b n) = _
  pointwise

/-- The scores of a position, from its row of the table. -/
theorem scores_row (x : IVec S16x2048 32) (emb : FVec Ideal S1024x64 .f32) (W : FVec Ideal S64x1024 .f32) (u : FVec Ideal S16x2048x1024 .f32)
    (b : Fin 16) (n : Fin 2048) (k : Fin 1024) (hx : x (ix2 b n) = BitVec.ofNat 32 k.val) (w : Fin 1024) :
    scores (logits x emb W) u (ix3 b n w)
      = score (fun w => ∑ d : Fin 64, (show EReal from emb (ix2 k d)) * W (ix2 d w)) (fun w => u (ix3 b n w)) w := by
  rw [scores_at]
  simp only [logits_at, picked_at emb x b n _ k hx]

/-- One word at a position, and both sides sample it. -/
theorem both_sample (h : Cert.Pre_one_sample.fn (argX m c) (argT m c) (argE m c) (argW m c) (argU m c) (argZ m c) = fun _ => 1#1)
    (b : Fin 16) (n : Fin 2048) :
    ∃ k v : Fin 1024, argX m c (ix2 b n) = BitVec.ofNat 32 k.val
      ∧ (words m c : FVec Ideal S16x2048 .f32) (ix2 b n) = ((v.val : ℝ) : EReal)
      ∧ word (scores (logits (argX m c) (argE m c) (argW m c)) (argU m c)) (ix2 b n) = BitVec.ofNat 32 v.val := by
  obtain ⟨⟨k, hk⟩, v, hv⟩ := pre_at h b n
  refine ⟨k, v, hk, ?_, word_at _ b n v hv⟩
  simp only [scores_row _ _ _ _ b n k hk] at hv
  rw [words_row]
  unfold rowAt
  rw [iblk3, iblk1, iblk2]
  refine sampled_at _ _ _ _ _ b (coord_row _) n k (float_at _ b n k hk) v fun w hw => ?_
  have hu : ∀ w : Fin 1024, (iblk m c 4 (pointOf (ix2 b n)) : FVec Ideal S1x2048x1024 .f32) (ix3 0 n w) = argU m c (ix3 b n w) := fun w =>
    iblk4 m c (pointOf (ix2 b n)) b rfl n w
  simp only [hu]
  exact hv w hw

theorem next_same (h : Cert.Pre_one_sample.fn (argX m c) (argT m c) (argE m c) (argW m c) (argU m c) (argZ m c) = fun _ => 1#1) :
    (nextTokens m c : IVec S16x2048 32) = Cert.ReferenceIdeal.Plain.next (argT m c) (argX m c)
      (word (scores (logits (argX m c) (argE m c) (argW m c)) (argU m c))) (argZ m c) := by
  funext j
  obtain ⟨b, n, rfl⟩ : ∃ (b : Fin 16) (n : Fin 2048), j = ix2 b n := ⟨j 0, j 1, (ix2_eta j).symm⟩
  obtain ⟨k, v, hk, h1, hw⟩ := both_sample m c h b n
  exact (kernel_next_at (argT m c) (words m c) _ (argZ m c) b n v k h1 (float_at _ b n k hk)).trans
    (plain_next_at (argT m c) _ _ (argZ m c) b n v k hw hk).symm

theorem change_same (h : Cert.Pre_one_sample.fn (argX m c) (argT m c) (argE m c) (argW m c) (argU m c) (argZ m c) = fun _ => 1#1) :
    (changes m c : FVec Ideal S16x2048 .f32) = Cert.ReferenceIdeal.Plain.change (argT m c) (argX m c)
      (word (scores (logits (argX m c) (argE m c) (argW m c)) (argU m c))) := by
  funext j
  obtain ⟨b, n, rfl⟩ : ∃ (b : Fin 16) (n : Fin 2048), j = ix2 b n := ⟨j 0, j 1, (ix2_eta j).symm⟩
  obtain ⟨k, v, hk, h1, hw⟩ := both_sample m c h b n
  exact (kernel_change_at (argT m c) (words m c) _ b n v k h1 (float_at _ b n k hk)).trans
    (plain_change_at (argT m c) _ _ b n v k hw hk).symm

end Cert.Sampling

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Run
public import proofs.«01_k».proof.Proof.KernelIdeal.Run
public import proofs.«01_k».proof.Proof.Reference.Run
public import proofs.«01_k».proof.Proof.Sampling.Same
public import proofs.«01_k».proof.Proof.Gen.Pre_one_sample
public import Idealize.ShloMosaic.Adequacy
public import Idealize.ShloMosaic.Init

@[expose] public section

noncomputable section

namespace Cert.Proof

open Idealize.ShloMosaic Idealize.SL.Sem Cert.Kernel

theorem frame_p : Cert.quiescent_Kernel := fun m g _ => Cert.Kernel.Sampler.frame m g

theorem frame_pi : Cert.quiescent_KernelIdeal := fun m g _ => Cert.KernelIdeal.Sampler.frame m g

theorem frame_ri : Cert.quiescent_ReferenceIdeal := fun m g _ =>
  θ_run_mono (Cert.ReferenceIdeal.Plain.run m g) fun _ h => ⟨fun c => (h.1 c).2.2, h.2⟩

/-- The one named constant, the reciprocal of the logarithm of two, is the constant the idealization reads it as. -/
theorem preserves : Cert.preserves_Kernel_KernelIdeal :=
  IdealRules.named_const.statement Cert.KernelIdeal.κ "inv_ln2" .f32 0x3FB8AA3B#32 _ rfl

theorem frame_pi_one : Cert.quiescent_KernelIdeal_pre_one_sample := fun m g _ => Cert.KernelIdeal.Sampler.frame m g

theorem frame_ri_one : Cert.quiescent_ReferenceIdeal_pre_one_sample := fun m g _ =>
  θ_run_mono (Cert.ReferenceIdeal.Plain.run m g) fun _ h => ⟨fun c => (h.1 c).2.2, h.2⟩

/-- Both results: the kernel leaves the arrays the reference leaves. -/
theorem algebraic : Cert.algebraic_KernelIdeal_ReferenceIdeal_pre_one_sample := by
  intro m g m' g' hpre hagree
  refine ⟨fun c => Cert.KernelIdeal.Sampler.nextTokens m c, fun c => Cert.KernelIdeal.Sampler.changes m c,
    Cert.KernelIdeal.Sampler.run m g, θ_run_mono (Cert.ReferenceIdeal.Plain.run m' g') fun r h c => ?_⟩
  obtain ⟨e0, e1, e2, e3, e4, e5⟩ := hagree c
  obtain ⟨hn, hc, hargs⟩ := h.1 c
  unfold Cert.ReferenceIdeal.Plain.sampled at hn hc
  dsimp only [Cert.ReferenceIdeal.Plain.at0] at hn hc
  rw [e0, e1, e2, e3, e4, e5] at hn
  rw [e0, e1, e2, e3, e4] at hc
  exact ⟨hn.trans (Cert.Sampling.next_same m c (hpre c)).symm, hc.trans (Cert.Sampling.change_same m c (hpre c)).symm, hargs⟩

theorem claim : Cert.Claim :=
  ⟨Cert.Kernel.Gen.facts, Cert.KernelIdeal.Gen.facts, Cert.ReferenceIdeal.Gen.facts, Cert.Pre_one_sample.Gen.facts,
    frame_p, frame_pi, frame_pi_one, frame_ri, frame_ri_one, preserves, algebraic⟩

end Cert.Proof

end
